-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_zero_state [hPre_zero_state : Cert.Pre_zero_state.Facts] (m : (ℓ : Loc Cert.KernelIdeal.nD Cert.KernelIdeal.τ Cert.KernelIdeal.sig) → Buf (Elt Ideal) ℓ) : Prop :=
  ∀ c : Dev Cert.KernelIdeal.nD,
    (Cert.Pre_zero_state.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_state [hPre_zero_state : Cert.Pre_zero_state.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_state.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_zero_state [hKernelIdeal : Cert.KernelIdeal.Facts] [hPre_zero_state : Cert.Pre_zero_state.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_state m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_zero_state [hReferenceIdeal : Cert.ReferenceIdeal.Facts] [hPre_zero_state : Cert.Pre_zero_state.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_state m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_zero_state [hKernelIdeal : Cert.KernelIdeal.Facts] [hReferenceIdeal : Cert.ReferenceIdeal.Facts] [hPre_zero_state : Cert.Pre_zero_state.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_state m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_v121) = v1 c
          ∧ r.2.mem ((c.tc : Thread Cert.ReferenceIdeal.nD Cert.ReferenceIdeal.τ).loc Cert.ReferenceIdeal.main_v124) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_zero_state : Cert.Pre_zero_state.Facts),
    quiescent_Kernel (hKernel := hKernel)
    ∧ quiescent_KernelIdeal (hKernelIdeal := hKernelIdeal)
    ∧ quiescent_KernelIdeal_pre_zero_state (hKernelIdeal := hKernelIdeal) (hPre_zero_state := hPre_zero_state)
    ∧ quiescent_ReferenceIdeal (hReferenceIdeal := hReferenceIdeal)
    ∧ quiescent_ReferenceIdeal_pre_zero_state (hReferenceIdeal := hReferenceIdeal) (hPre_zero_state := hPre_zero_state)
    ∧ preserves_Kernel_KernelIdeal
    ∧ algebraic_KernelIdeal_ReferenceIdeal_pre_zero_state (hKernelIdeal := hKernelIdeal) (hReferenceIdeal := hReferenceIdeal) (hPre_zero_state := hPre_zero_state)
-- ==== Pre_zero_state.lean ====
abbrev S4096x1024 : Shape := ⟨2, ![4096, 1024]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S2048x1024 : Shape := ⟨2, ![2048, 1024]⟩
abbrev S1024 : Shape := ⟨1, ![1024]⟩
abbrev S1024x1 : Shape := ⟨2, ![1024, 1]⟩
abbrev S4096x2048 : Shape := ⟨2, ![4096, 2048]⟩
abbrev S2048 : Shape := ⟨1, ![2048]⟩
abbrev S4x1024 : Shape := ⟨2, ![4, 1024]⟩
abbrev S4 : Shape := ⟨1, ![4]⟩
abbrev S_ : Shape := ⟨0, ![]⟩

class Facts : Prop where
  bcast_S_S4x1024 : S_.BroadcastsInDim S4x1024 (![] : Fin 0 → Fin S4x1024.rank)
  reducesTo_S4x1024_S_d0_1 : S4x1024.ReducesTo [0, 1] S_
  h_S_ : 0 < S_.numel
  bcast_S_S4 : S_.BroadcastsInDim S4 (![] : Fin 0 → Fin S4.rank)
  reducesTo_S4_S_d0 : S4.ReducesTo [0] S_

variable [Facts]

def fn {F : FTy → Type} [FloatOps F] (main_arg0 : FVec F S4096x1024 .f32) (main_arg1 : FVec F S4096x1024 .f32) (main_arg2 : FVec F S1024x512 .f32) (main_arg3 : FVec F S512 .f32) (main_arg4 : FVec F S512x1 .f32) (main_arg5 : FVec F S1 .f32) (main_arg6 : FVec F S2048x1024 .f32) (main_arg7 : FVec F S1024 .f32) (main_arg8 : FVec F S1024x1 .f32) (main_arg9 : FVec F S1 .f32) (main_arg10 : FVec F S4096x2048 .f32) (main_arg11 : FVec F S2048 .f32) (main_arg12 : FVec F S2048x1024 .f32) (main_arg13 : FVec F S1024 .f32) (main_arg14 : FVec F S1024 .f32) (main_arg15 : FVec F S1024 .f32) (main_arg16 : FVec F S4x1024 .f32) (main_arg17 : FVec F S4 .f32) : IVec S_ 1 :=
  let main_cst : FVec F S_ .f32 := constant S_ .f32 0x00000000#32
  let main_v0 : FVec F S4x1024 .f32 := broadcastInDim S4x1024 ![] bcast_S_S4x1024 main_cst
  let main_v1 : IVec S4x1024 1 := cmpf .oeq main_arg16 main_v0
  let main_c : IVec S_ 1 := constantI S_ 1 1#1
  let main_v2 : IVec S_ 1 := (fun x v => Host.reduce IntOp.andi x v reducesTo_S4x1024_S_d0_1 h_S_) main_v1 main_c
  let main_cst_0 : FVec F S_ .f32 := constant S_ .f32 0x00000000#32
  let main_v3 : FVec F S4 .f32 := broadcastInDim S4 ![] bcast_S_S4 main_cst_0
  let main_v4 : IVec S4 1 := cmpf .oeq main_arg17 main_v3
  let main_c_1 : IVec S_ 1 := constantI S_ 1 1#1
  let main_v5 : IVec S_ 1 := (fun x v => Host.reduce IntOp.andi x v reducesTo_S4_S_d0 h_S_) main_v4 main_c_1
  let main_v6 : IVec S_ 1 := andi main_v2 main_v5
  main_v6
-- ==== Kernel.lean ====
abbrev S4096x1024 : Shape := ⟨2, ![4096, 1024]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S2048x1024 : Shape := ⟨2, ![2048, 1024]⟩
abbrev S1024 : Shape := ⟨1, ![1024]⟩
abbrev S1024x1 : Shape := ⟨2, ![1024, 1]⟩
abbrev S4096x2048 : Shape := ⟨2, ![4096, 2048]⟩
abbrev S2048 : Shape := ⟨1, ![2048]⟩
abbrev S4x1024 : Shape := ⟨2, ![4, 1024]⟩
abbrev S4 : Shape := ⟨1, ![4]⟩
abbrev S1x512 : Shape := ⟨2, ![1, 512]⟩
abbrev S1x1 : Shape := ⟨2, ![1, 1]⟩
abbrev S1x2048 : Shape := ⟨2, ![1, 2048]⟩
abbrev S1x1024 : Shape := ⟨2, ![1, 1024]⟩
abbrev S4096x4x1024 : Shape := ⟨3, ![4096, 4, 1024]⟩
abbrev S4096x4 : Shape := ⟨2, ![4096, 4]⟩
abbrev S512x1024 : Shape := ⟨2, ![512, 1024]⟩
abbrev S1024x2048 : Shape := ⟨2, ![1024, 2048]⟩
abbrev S512x4x1024 : Shape := ⟨3, ![512, 4, 1024]⟩
abbrev S512x4 : Shape := ⟨2, ![512, 4]⟩
abbrev S512x512 : Shape := ⟨2, ![512, 512]⟩
abbrev S512x2048 : Shape := ⟨2, ![512, 2048]⟩
abbrev S512x1x1024 : Shape := ⟨3, ![512, 1, 1024]⟩

abbrev nBuf : Space → Nat
  | .hbm => 27
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x512, .f32⟩
  | .hbm, ⟨3, _⟩ => ⟨S512, .f32⟩
  | .hbm, ⟨4, _⟩ => ⟨S512x1, .f32⟩
  | .hbm, ⟨5, _⟩ => ⟨S1, .f32⟩
  | .hbm, ⟨6, _⟩ => ⟨S2048x1024, .f32⟩
  | .hbm, ⟨7, _⟩ => ⟨S1024, .f32⟩
  | .hbm, ⟨8, _⟩ => ⟨S1024x1, .f32⟩
  | .hbm, ⟨9, _⟩ => ⟨S1, .f32⟩
  | .hbm, ⟨10, _⟩ => ⟨S4096x2048, .f32⟩
  | .hbm, ⟨11, _⟩ => ⟨S2048, .f32⟩
  | .hbm, ⟨12, _⟩ => ⟨S2048x1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S4x1024, .f32⟩
  | .hbm, ⟨17, _⟩ => ⟨S4, .f32⟩
  | .hbm, ⟨18, _⟩ => ⟨S1x512, .f32⟩
  | .hbm, ⟨19, _⟩ => ⟨S1x1, .f32⟩
  | .hbm, ⟨20, _⟩ => ⟨S1x2048, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S4096x1024, .f32⟩
  | .hbm, ⟨25, _⟩ => ⟨S4096x4x1024, .f32⟩
  | .hbm, ⟨26, _⟩ => ⟨S4096x4, .f32⟩
  | .local _ .vmem, ⟨0, _⟩ => ⟨S512x1024, .f32⟩
  | .local _ .vmem, ⟨1, _⟩ => ⟨S512x1024, .f32⟩
  | .local _ .vmem, ⟨2, _⟩ => ⟨S1024x512, .f32⟩
  | .local _ .vmem, ⟨3, _⟩ => ⟨S1x512, .f32⟩
  | .local _ .vmem, ⟨4, _⟩ => ⟨S512x1, .f32⟩
  | .local _ .vmem, ⟨5, _⟩ => ⟨S1x1, .f32⟩
  | .local _ .vmem, ⟨6, _⟩ => ⟨S1024x2048, .f32⟩
  | .local _ .vmem, ⟨7, _⟩ => ⟨S1x2048, .f32⟩
  | .local _ .vmem, ⟨8, _⟩ => ⟨S2048x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x4x1024, .f32⟩
  | .local _ .vmem, ⟨15, _⟩ => ⟨S512x4x1024, .f32⟩
  | .local _ .vmem, ⟨16, _⟩ => ⟨S512x4, .f32⟩
  | .local _ .vmem, ⟨17, _⟩ => ⟨S512x4, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_v0_0 : Ref sig .tc := ⟨.hbm, 24, rfl⟩
abbrev main_v0_1 : Ref sig .tc := ⟨.hbm, 25, rfl⟩
abbrev main_v0_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x4x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x4 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S4096x1024 : Shape := ⟨2, ![4096, 1024]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S2048x1024 : Shape := ⟨2, ![2048, 1024]⟩
abbrev S1024 : Shape := ⟨1, ![1024]⟩
abbrev S1024x1 : Shape := ⟨2, ![1024, 1]⟩
abbrev S4096x2048 : Shape := ⟨2, ![4096, 2048]⟩
abbrev S2048 : Shape := ⟨1, ![2048]⟩
abbrev S4x1024 : Shape := ⟨2, ![4, 1024]⟩
abbrev S4 : Shape := ⟨1, ![4]⟩
abbrev S4096x512 : Shape := ⟨2, ![4096, 512]⟩
abbrev S1x512 : Shape := ⟨2, ![1, 512]⟩
abbrev S_ : Shape := ⟨0, ![]⟩
abbrev S4096x1 : Shape := ⟨2, ![4096, 1]⟩
abbrev S1x1 : Shape := ⟨2, ![1, 1]⟩
abbrev S4096 : Shape := ⟨1, ![4096]⟩
abbrev S1024x4 : Shape := ⟨2, ![1024, 4]⟩
abbrev S4096x4 : Shape := ⟨2, ![4096, 4]⟩
abbrev S1x4 : Shape := ⟨2, ![1, 4]⟩
abbrev S4096x1x1 : Shape := ⟨3, ![4096, 1, 1]⟩
abbrev S1x1x1 : Shape := ⟨3, ![1, 1, 1]⟩
abbrev S1x1024 : Shape := ⟨2, ![1, 1024]⟩
abbrev S4096x4x1 : Shape := ⟨3, ![4096, 4, 1]⟩
abbrev S4096x1x1024 : Shape := ⟨3, ![4096, 1, 1024]⟩
abbrev S1x4x1024 : Shape := ⟨3, ![1, 4, 1024]⟩
abbrev S4096x4x1024 : Shape := ⟨3, ![4096, 4, 1024]⟩
abbrev S4096x4096 : Shape := ⟨2, ![4096, 4096]⟩
abbrev S1x2048 : Shape := ⟨2, ![1, 2048]⟩

abbrev nBuf : Space → Nat
  | .hbm => 254
  | .vmem => 0
  | .smem => 0
  | _ => 0

abbrev hbmTy0_0 (i : Nat) : BufTy := match i % 128 with
  | 0 => ⟨S4096x1024, .f32⟩
  | 1 => ⟨S4096x1024, .f32⟩
  | 2 => ⟨S1024x512, .f32⟩
  | 3 => ⟨S512, .f32⟩
  | 4 => ⟨S512x1, .f32⟩
  | 5 => ⟨S1, .f32⟩
  | 6 => ⟨S2048x1024, .f32⟩
  | 7 => ⟨S1024, .f32⟩
  | 8 => ⟨S1024x1, .f32⟩
  | 9 => ⟨S1, .f32⟩
  | 10 => ⟨S4096x2048, .f32⟩
  | 11 => ⟨S2048, .f32⟩
  | 12 => ⟨S2048x1024, .f32⟩
  | 13 => ⟨S1024, .f32⟩
  | 14 => ⟨S1024, .f32⟩
  | 15 => ⟨S1024, .f32⟩
  | 16 => ⟨S4x1024, .f32⟩
  | 17 => ⟨S4, .f32⟩
  | 18 => ⟨S4096x512, .f32⟩
  | 19 => ⟨S1x512, .f32⟩
  | 20 => ⟨S4096x512, .f32⟩
  | 21 => ⟨S4096x512, .f32⟩
  | 22 => ⟨S_, .f32⟩
  | 23 => ⟨S4096x512, .f32⟩
  | 24 => ⟨S4096x512, .f32⟩
  | 25 => ⟨S4096x512, .f32⟩
  | 26 => ⟨S_, .f32⟩
  | 27 => ⟨S4096x512, .f32⟩
  | 28 => ⟨S4096x512, .f32⟩
  | 29 => ⟨S4096x512, .f32⟩
  | 30 => ⟨S4096x512, .f32⟩
  | 31 => ⟨S4096x1, .f32⟩
  | 32 => ⟨S1x1, .f32⟩
  | 33 => ⟨S4096x1, .f32⟩
  | 34 => ⟨S4096x1, .f32⟩
  | 35 => ⟨S4096, .f32⟩
  | 36 => ⟨S4, .i32⟩
  | 37 => ⟨S_, .f32⟩
  | 38 => ⟨S_, .i32⟩
  | 39 => ⟨S_, .f32⟩
  | 40 => ⟨S_, .i32⟩
  | 41 => ⟨S_, .f32⟩
  | 42 => ⟨S_, .f32⟩
  | 43 => ⟨S4096, .f32⟩
  | 44 => ⟨S4096, .i1⟩
  | 45 => ⟨S4096x1024, .f32⟩
  | 46 => ⟨S_, .f32⟩
  | 47 => ⟨S4096, .f32⟩
  | 48 => ⟨S4096, .f32⟩
  | 49 => ⟨S_, .f32⟩
  | 50 => ⟨S4096, .f32⟩
  | 51 => ⟨S4096, .f32⟩
  | 52 => ⟨S4x1024, .f32⟩
  | 53 => ⟨S_, .f32⟩
  | 54 => ⟨S4, .f32⟩
  | 55 => ⟨S4, .f32⟩
  | 56 => ⟨S_, .f32⟩
  | 57 => ⟨S4, .f32⟩
  | 58 => ⟨S4, .f32⟩
  | 59 => ⟨S1024x4, .f32⟩
  | 60 => ⟨S4096x4, .f32⟩
  | 61 => ⟨S4096x1, .f32⟩
  | 62 => ⟨S1x4, .f32⟩
  | 63 => ⟨S4096x4, .f32⟩
  | 64 => ⟨S4096x4, .f32⟩
  | 65 => ⟨S4096x4, .f32⟩
  | 66 => ⟨S4096x4, .f32⟩
  | 67 => ⟨S4096x4, .i32⟩
  | 68 => ⟨S_, .f32⟩
  | 69 => ⟨S_, .i32⟩
  | 70 => ⟨S4096, .f32⟩
  | 71 => ⟨S4096, .i32⟩
  | 72 => ⟨S4096x1, .i32⟩
  | 73 => ⟨S_, .i32⟩
  | 74 => ⟨S4096x1, .i32⟩
  | 75 => ⟨S4096x1, .i1⟩
  | 76 => ⟨S_, .i32⟩
  | 77 => ⟨S4096x1, .i32⟩
  | 78 => ⟨S4096x1, .i32⟩
  | 79 => ⟨S4096x1, .i32⟩
  | 80 => ⟨S4096x1x1, .i32⟩
  | 81 => ⟨S1, .i32⟩
  | 82 => ⟨S_, .i32⟩
  | 83 => ⟨S4096x1x1, .i32⟩
  | 84 => ⟨S4096x1x1, .i1⟩
  | 85 => ⟨S1x1x1, .i32⟩
  | 86 => ⟨S4096x1x1, .i32⟩
  | 87 => ⟨S4096x1x1, .i1⟩
  | 88 => ⟨S4096x1x1, .i1⟩
  | 89 => ⟨S_, .i1⟩
  | 90 => ⟨S4096x1, .i1⟩
  | 91 => ⟨S4096x1, .f32⟩
  | 92 => ⟨S_, .f32⟩
  | 93 => ⟨S4096x1, .f32⟩
  | 94 => ⟨S4096x1, .f32⟩
  | 95 => ⟨S4096, .f32⟩
  | 96 => ⟨S_, .i32⟩
  | 97 => ⟨S4096, .i32⟩
  | 98 => ⟨S4096, .i1⟩
  | 99 => ⟨S_, .i32⟩
  | 100 => ⟨S4096, .i32⟩
  | 101 => ⟨S4096, .i32⟩
  | 102 => ⟨S4096, .i32⟩
  | 103 => ⟨S4096x1, .i32⟩
  | 104 => ⟨S4096x1024, .f32⟩
  | 105 => ⟨S4096x2048, .f32⟩
  | 106 => ⟨S4096x1024, .f32⟩
  | 107 => ⟨S1x1024, .f32⟩
  | 108 => ⟨S4096x1024, .f32⟩
  | 109 => ⟨S4096x1024, .f32⟩
  | 110 => ⟨S_, .f32⟩
  | 111 => ⟨S4096x1024, .f32⟩
  | 112 => ⟨S4096x1024, .f32⟩
  | 113 => ⟨S4096x1024, .f32⟩
  | 114 => ⟨S_, .f32⟩
  | 115 => ⟨S4096x1024, .f32⟩
  | 116 => ⟨S4096x1024, .f32⟩
  | 117 => ⟨S4096x1024, .f32⟩
  | 118 => ⟨S4096x1024, .f32⟩
  | 119 => ⟨S4096x1, .f32⟩
  | 120 => ⟨S1x1, .f32⟩
  | 121 => ⟨S4096x1, .f32⟩
  | 122 => ⟨S4096x1, .f32⟩
  | 123 => ⟨S4096x1, .f32⟩
  | 124 => ⟨S4096x1, .f32⟩
  | 125 => ⟨S_, .f32⟩
  | 126 => ⟨S4096x1, .f32⟩
  | 127 => ⟨S4096x1, .f32⟩
  | _ => ⟨S4096x1024, .f32⟩

abbrev hbmTy0_1 (i : Nat) : BufTy := match i % 128 with
  | 0 => ⟨S_, .f32⟩
  | 1 => ⟨S4096x1, .f32⟩
  | 2 => ⟨S4096x1, .f32⟩
  | 3 => ⟨S4096x1024, .f32⟩
  | 4 => ⟨S4096x1024, .f32⟩
  | 5 => ⟨S_, .f32⟩
  | 6 => ⟨S4096x1, .f32⟩
  | 7 => ⟨S4096x1, .f32⟩
  | 8 => ⟨S_, .i32⟩
  | 9 => ⟨S4096, .i32⟩
  | 10 => ⟨S4096, .i1⟩
  | 11 => ⟨S_, .i32⟩
  | 12 => ⟨S4096, .i32⟩
  | 13 => ⟨S4096, .i32⟩
  | 14 => ⟨S4096, .i32⟩
  | 15 => ⟨S4096x1, .i32⟩
  | 16 => ⟨S4096x1024, .f32⟩
  | 17 => ⟨S4096x1024, .f32⟩
  | 18 => ⟨S4096x1024, .f32⟩
  | 19 => ⟨S4096x1024, .f32⟩
  | 20 => ⟨S_, .i32⟩
  | 21 => ⟨S4096, .i32⟩
  | 22 => ⟨S4096, .i1⟩
  | 23 => ⟨S_, .i32⟩
  | 24 => ⟨S4096, .i32⟩
  | 25 => ⟨S4096, .i32⟩
  | 26 => ⟨S4096, .i32⟩
  | 27 => ⟨S4096x1, .i32⟩
  | 28 => ⟨S4096, .f32⟩
  | 29 => ⟨S4096, .f32⟩
  | 30 => ⟨S_, .f32⟩
  | 31 => ⟨S4096, .f32⟩
  | 32 => ⟨S4096, .i1⟩
  | 33 => ⟨S4096, .i32⟩
  | 34 => ⟨S4096, .i32⟩
  | 35 => ⟨S4096x1, .i1⟩
  | 36 => ⟨S4096x1024, .i1⟩
  | 37 => ⟨S4096x1024, .f32⟩
  | 38 => ⟨S4096, .f32⟩
  | 39 => ⟨S4096x1, .i1⟩
  | 40 => ⟨S_, .i32⟩
  | 41 => ⟨S4096, .i32⟩
  | 42 => ⟨S4096, .i1⟩
  | 43 => ⟨S_, .i32⟩
  | 44 => ⟨S4096, .i32⟩
  | 45 => ⟨S4096, .i32⟩
  | 46 => ⟨S4096, .i32⟩
  | 47 => ⟨S4096x1, .i32⟩
  | 48 => ⟨S4096x1024, .f32⟩
  | 49 => ⟨S4096x1024, .i1⟩
  | 50 => ⟨S4096x1024, .f32⟩
  | 51 => ⟨S_, .i32⟩
  | 52 => ⟨S4096, .i32⟩
  | 53 => ⟨S4096, .i1⟩
  | 54 => ⟨S_, .i32⟩
  | 55 => ⟨S4096, .i32⟩
  | 56 => ⟨S4096, .i32⟩
  | 57 => ⟨S4096, .i32⟩
  | 58 => ⟨S4096x1, .i32⟩
  | 59 => ⟨S4096, .f32⟩
  | 60 => ⟨S4096, .f32⟩
  | 61 => ⟨S4, .i32⟩
  | 62 => ⟨S1x4, .i32⟩
  | 63 => ⟨S4096x1, .i32⟩
  | 64 => ⟨S4096x4, .i32⟩
  | 65 => ⟨S4096x4, .i32⟩
  | 66 => ⟨S4096x4, .i1⟩
  | 67 => ⟨S4096x4x1, .i1⟩
  | 68 => ⟨S4096x1x1024, .f32⟩
  | 69 => ⟨S1x4x1024, .f32⟩
  | 70 => ⟨S4096x4x1024, .i1⟩
  | 71 => ⟨S4096x4x1024, .f32⟩
  | 72 => ⟨S4096x4x1024, .f32⟩
  | 73 => ⟨S4096x4x1024, .f32⟩
  | 74 => ⟨S4096x1, .f32⟩
  | 75 => ⟨S1x4, .f32⟩
  | 76 => ⟨S4096x4, .f32⟩
  | 77 => ⟨S4096x4, .f32⟩
  | 78 => ⟨S4096x4, .f32⟩
  | 79 => ⟨S4096x4096, .f32⟩
  | 80 => ⟨S4096x2048, .f32⟩
  | 81 => ⟨S1x2048, .f32⟩
  | 82 => ⟨S4096x2048, .f32⟩
  | 83 => ⟨S4096x2048, .f32⟩
  | 84 => ⟨S_, .f32⟩
  | 85 => ⟨S4096x2048, .f32⟩
  | 86 => ⟨S4096x2048, .f32⟩
  | 87 => ⟨S4096x2048, .f32⟩
  | 88 => ⟨S_, .f32⟩
  | 89 => ⟨S4096x2048, .f32⟩
  | 90 => ⟨S4096x2048, .f32⟩
  | 91 => ⟨S4096x2048, .f32⟩
  | 92 => ⟨S4096x2048, .f32⟩
  | 93 => ⟨S4096x1024, .f32⟩
  | 94 => ⟨S1x1024, .f32⟩
  | 95 => ⟨S4096x1024, .f32⟩
  | 96 => ⟨S4096x1024, .f32⟩
  | 97 => ⟨S_, .f32⟩
  | 98 => ⟨S4096, .f32⟩
  | 99 => ⟨S4096x1, .f32⟩
  | 100 => ⟨S_, .f32⟩
  | 101 => ⟨S4096x1, .f32⟩
  | 102 => ⟨S4096x1, .f32⟩
  | 103 => ⟨S4096x1024, .f32⟩
  | 104 => ⟨S4096x1024, .f32⟩
  | 105 => ⟨S4096x1024, .f32⟩
  | 106 => ⟨S_, .f32⟩
  | 107 => ⟨S4096, .f32⟩
  | 108 => ⟨S4096x1, .f32⟩
  | 109 => ⟨S_, .f32⟩
  | 110 => ⟨S4096x1, .f32⟩
  | 111 => ⟨S4096x1, .f32⟩
  | 112 => ⟨S4096x1024, .f32⟩
  | 113 => ⟨S4096x1024, .f32⟩
  | 114 => ⟨S_, .f32⟩
  | 115 => ⟨S4096x1, .f32⟩
  | 116 => ⟨S4096x1, .f32⟩
  | 117 => ⟨S4096x1, .f32⟩
  | 118 => ⟨S4096x1024, .f32⟩
  | 119 => ⟨S4096x1024, .f32⟩
  | 120 => ⟨S1x1024, .f32⟩
  | 121 => ⟨S4096x1024, .f32⟩
  | 122 => ⟨S4096x1024, .f32⟩
  | 123 => ⟨S1x1024, .f32⟩
  | 124 => ⟨S4096x1024, .f32⟩
  | 125 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_call0_v0 : Ref sig .tc := ⟨.hbm, 36, rfl⟩
abbrev main_call0_cst : Ref sig .tc := ⟨.hbm, 37, rfl⟩
abbrev main_call0_c : Ref sig .tc := ⟨.hbm, 38, rfl⟩
abbrev main_call0_v1_0 : Ref sig .tc := ⟨.hbm, 39, rfl⟩
abbrev main_v16 : Ref sig .tc := ⟨.hbm, 40, rfl⟩
abbrev main_cst_1 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_call1_v0 : Ref sig .tc := ⟨.hbm, 45, rfl⟩
abbrev main_call1_cst : Ref sig .tc := ⟨.hbm, 46, rfl⟩
abbrev main_call1_v1 : Ref sig .tc := ⟨.hbm, 47, rfl⟩
abbrev main_v20 : Ref sig .tc := ⟨.hbm, 48, rfl⟩
abbrev main_cst_2 : Ref sig .tc := ⟨.hbm, 49, rfl⟩
abbrev main_v21 : Ref sig .tc := ⟨.hbm, 50, rfl⟩
abbrev main_v22 : Ref sig .tc := ⟨.hbm, 51, rfl⟩
abbrev main_call2_v0 : Ref sig .tc := ⟨.hbm, 52, rfl⟩
abbrev main_call2_cst : Ref sig .tc := ⟨.hbm, 53, rfl⟩
abbrev main_call2_v1 : Ref sig .tc := ⟨.hbm, 54, rfl⟩
abbrev main_v23 : Ref sig .tc := ⟨.hbm, 55, rfl⟩
abbrev main_cst_3 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_call3_v0 : Ref sig .tc := ⟨.hbm, 67, rfl⟩
abbrev main_call3_cst : Ref sig .tc := ⟨.hbm, 68, rfl⟩
abbrev main_call3_c : Ref sig .tc := ⟨.hbm, 69, rfl⟩
abbrev main_call3_v1_0 : Ref sig .tc := ⟨.hbm, 70, rfl⟩
abbrev main_v34 : Ref sig .tc := ⟨.hbm, 71, rfl⟩
abbrev main_v35 : Ref sig .tc := ⟨.hbm, 72, rfl⟩
abbrev main_call4_c : Ref sig .tc := ⟨.hbm, 73, rfl⟩
abbrev main_call4_v0 : Ref sig .tc := ⟨.hbm, 74, rfl⟩
abbrev main_call4_v1 : Ref sig .tc := ⟨.hbm, 75, rfl⟩
abbrev main_call4_c_0 : Ref sig .tc := ⟨.hbm, 76, rfl⟩
abbrev main_call4_v2 : Ref sig .tc := ⟨.hbm, 77, rfl⟩
abbrev main_call4_v3 : Ref sig .tc := ⟨.hbm, 78, rfl⟩
abbrev main_call4_v4 : Ref sig .tc := ⟨.hbm, 79, rfl⟩
abbrev main_call4_v5 : Ref sig .tc := ⟨.hbm, 80, rfl⟩
abbrev main_call4_c_1 : Ref sig .tc := ⟨.hbm, 81, rfl⟩
abbrev main_call4_c_2 : Ref sig .tc := ⟨.hbm, 82, rfl⟩
abbrev main_call4_v6 : Ref sig .tc := ⟨.hbm, 83, rfl⟩
abbrev main_call4_v7 : Ref sig .tc := ⟨.hbm, 84, rfl⟩
abbrev main_call4_v8 : Ref sig .tc := ⟨.hbm, 85, rfl⟩
abbrev main_call4_v9 : Ref sig .tc := ⟨.hbm, 86, rfl⟩
abbrev main_call4_v10 : Ref sig .tc := ⟨.hbm, 87, rfl⟩
abbrev main_call4_v11 : Ref sig .tc := ⟨.hbm, 88, rfl⟩
abbrev main_call4_c_3 : Ref sig .tc := ⟨.hbm, 89, rfl⟩
abbrev main_call4_v12 : Ref sig .tc := ⟨.hbm, 90, rfl⟩
abbrev main_call4_v13 : Ref sig .tc := ⟨.hbm, 91, rfl⟩
abbrev main_call4_cst : Ref sig .tc := ⟨.hbm, 92, rfl⟩
abbrev main_call4_v14 : Ref sig .tc := ⟨.hbm, 93, rfl⟩
abbrev main_v36 : Ref sig .tc := ⟨.hbm, 94, rfl⟩
abbrev main_v37 : Ref sig .tc := ⟨.hbm, 95, rfl⟩
abbrev main_c : Ref sig .tc := ⟨.hbm, 96, rfl⟩
abbrev main_v38 : Ref sig .tc := ⟨.hbm, 97, rfl⟩
abbrev main_v39 : Ref sig .tc := ⟨.hbm, 98, rfl⟩
abbrev main_c_4 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_cst_5 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_cst_6 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_cst_7 : Ref sig .tc := ⟨.hbm, 125, rfl⟩
abbrev main_v63 : Ref sig .tc := ⟨.hbm, 126, rfl⟩
abbrev main_v64 : Ref sig .tc := ⟨.hbm, 127, rfl⟩
abbrev main_cst_8 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_v68 : Ref sig .tc := ⟨.hbm, 132, rfl⟩
abbrev main_cst_9 : Ref sig .tc := ⟨.hbm, 133, rfl⟩
abbrev main_v69 : Ref sig .tc := ⟨.hbm, 134, rfl⟩
abbrev main_v70 : Ref sig .tc := ⟨.hbm, 135, rfl⟩
abbrev main_c_10 : Ref sig .tc := ⟨.hbm, 136, rfl⟩
abbrev main_v71 : Ref sig .tc := ⟨.hbm, 137, rfl⟩
abbrev main_v72 : Ref sig .tc := ⟨.hbm, 138, rfl⟩
abbrev main_c_11 : Ref sig .tc := ⟨.hbm, 139, rfl⟩
abbrev main_v73 : Ref sig .tc := ⟨.hbm, 140, rfl⟩
abbrev main_v74 : Ref sig .tc := ⟨.hbm, 141, rfl⟩
abbrev main_v75 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_v80 : Ref sig .tc := ⟨.hbm, 147, rfl⟩
abbrev main_c_12 : Ref sig .tc := ⟨.hbm, 148, rfl⟩
abbrev main_v81 : Ref sig .tc := ⟨.hbm, 149, rfl⟩
abbrev main_v82 : Ref sig .tc := ⟨.hbm, 150, rfl⟩
abbrev main_c_13 : Ref sig .tc := ⟨.hbm, 151, rfl⟩
abbrev main_v83 : Ref sig .tc := ⟨.hbm, 152, rfl⟩
abbrev main_v84 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩
abbrev main_cst_14 : Ref sig .tc := ⟨.hbm, 158, rfl⟩
abbrev main_v89 : Ref sig .tc := ⟨.hbm, 159, rfl⟩
abbrev main_v90 : Ref sig .tc := ⟨.hbm, 160, rfl⟩
abbrev main_call5_v0 : Ref sig .tc := ⟨.hbm, 161, rfl⟩
abbrev main_v91 : Ref sig .tc := ⟨.hbm, 162, rfl⟩
abbrev main_v92 : Ref sig .tc := ⟨.hbm, 163, rfl⟩
abbrev main_call6_v0 : Ref sig .tc := ⟨.hbm, 164, rfl⟩
abbrev main_v93 : Ref sig .tc := ⟨.hbm, 165, rfl⟩
abbrev main_v94 : Ref sig .tc := ⟨.hbm, 166, rfl⟩
abbrev main_v95 : Ref sig .tc := ⟨.hbm, 167, rfl⟩
abbrev main_c_15 : Ref sig .tc := ⟨.hbm, 168, rfl⟩
abbrev main_v96 : Ref sig .tc := ⟨.hbm, 169, rfl⟩
abbrev main_v97 : Ref sig .tc := ⟨.hbm, 170, rfl⟩
abbrev main_c_16 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_v101 : Ref sig .tc := ⟨.hbm, 175, rfl⟩
abbrev main_v102 : Ref sig .tc := ⟨.hbm, 176, rfl⟩
abbrev main_call8_v0 : Ref sig .tc := ⟨.hbm, 177, rfl⟩
abbrev main_v103 : Ref sig .tc := ⟨.hbm, 178, rfl⟩
abbrev main_c_17 : Ref sig .tc := ⟨.hbm, 179, rfl⟩
abbrev main_v104 : Ref sig .tc := ⟨.hbm, 180, rfl⟩
abbrev main_v105 : Ref sig .tc := ⟨.hbm, 181, rfl⟩
abbrev main_c_18 : Ref sig .tc := ⟨.hbm, 182, rfl⟩
abbrev main_v106 : Ref sig .tc := ⟨.hbm, 183, rfl⟩
abbrev main_v107 : Ref sig .tc := ⟨.hbm, 184, rfl⟩
abbrev main_v108 : Ref sig .tc := ⟨.hbm, 185, rfl⟩
abbrev main_v109 : Ref sig .tc := ⟨.hbm, 186, rfl⟩
abbrev main_v110 : Ref sig .tc := ⟨.hbm, 187, rfl⟩
abbrev main_v111 : Ref sig .tc := ⟨.hbm, 188, rfl⟩
abbrev main_v112 : Ref sig .tc := ⟨.hbm, 189, rfl⟩
abbrev main_v113 : Ref sig .tc := ⟨.hbm, 190, rfl⟩
abbrev main_v114 : Ref sig .tc := ⟨.hbm, 191, rfl⟩
abbrev main_v115 : Ref sig .tc := ⟨.hbm, 192, rfl⟩
abbrev main_v116 : Ref sig .tc := ⟨.hbm, 193, rfl⟩
abbrev main_v117 : Ref sig .tc := ⟨.hbm, 194, rfl⟩
abbrev main_v118 : Ref sig .tc := ⟨.hbm, 195, rfl⟩
abbrev main_v119 : Ref sig .tc := ⟨.hbm, 196, rfl⟩
abbrev main_v120 : Ref sig .tc := ⟨.hbm, 197, rfl⟩
abbrev main_call10_v0 : Ref sig .tc := ⟨.hbm, 198, rfl⟩
abbrev main_call10_v1 : Ref sig .tc := ⟨.hbm, 199, rfl⟩
abbrev main_call10_v2 : Ref sig .tc := ⟨.hbm, 200, rfl⟩
abbrev main_v121 : Ref sig .tc := ⟨.hbm, 201, rfl⟩
abbrev main_v122 : Ref sig .tc := ⟨.hbm, 202, rfl⟩
abbrev main_v123 : Ref sig .tc := ⟨.hbm, 203, rfl⟩
abbrev main_call11_v0 : Ref sig .tc := ⟨.hbm, 204, rfl⟩
abbrev main_call11_v1 : Ref sig .tc := ⟨.hbm, 205, rfl⟩
abbrev main_v124 : Ref sig .tc := ⟨.hbm, 206, rfl⟩
abbrev main_v125 : Ref sig .tc := ⟨.hbm, 207, rfl⟩
abbrev main_v126 : Ref sig .tc := ⟨.hbm, 208, rfl⟩
abbrev main_v127 : Ref sig .tc := ⟨.hbm, 209, rfl⟩
abbrev main_v128 : Ref sig .tc := ⟨.hbm, 210, rfl⟩
abbrev main_v129 : Ref sig .tc := ⟨.hbm, 211, rfl⟩
abbrev main_cst_19 : Ref sig .tc := ⟨.hbm, 212, rfl⟩
abbrev main_v130 : Ref sig .tc := ⟨.hbm, 213, rfl⟩
abbrev main_v131 : Ref sig .tc := ⟨.hbm, 214, rfl⟩
abbrev main_v132 : Ref sig .tc := ⟨.hbm, 215, rfl⟩
abbrev main_cst_20 : Ref sig .tc := ⟨.hbm, 216, rfl⟩
abbrev main_v133 : Ref sig .tc := ⟨.hbm, 217, rfl⟩
abbrev main_v134 : Ref sig .tc := ⟨.hbm, 218, rfl⟩
abbrev main_v135 : Ref sig .tc := ⟨.hbm, 219, rfl⟩
abbrev main_v136 : Ref sig .tc := ⟨.hbm, 220, rfl⟩
abbrev main_v137 : Ref sig .tc := ⟨.hbm, 221, rfl⟩
abbrev main_v138 : Ref sig .tc := ⟨.hbm, 222, rfl⟩
abbrev main_v139 : Ref sig .tc := ⟨.hbm, 223, rfl⟩
abbrev main_v140 : Ref sig .tc := ⟨.hbm, 224, rfl⟩
abbrev main_cst_21 : Ref sig .tc := ⟨.hbm, 225, rfl⟩
abbrev main_v141 : Ref sig .tc := ⟨.hbm, 226, rfl⟩
abbrev main_v142 : Ref sig .tc := ⟨.hbm, 227, rfl⟩
abbrev main_cst_22 : Ref sig .tc := ⟨.hbm, 228, rfl⟩
abbrev main_v143 : Ref sig .tc := ⟨.hbm, 229, rfl⟩
abbrev main_v144 : Ref sig .tc := ⟨.hbm, 230, rfl⟩
abbrev main_v145 : Ref sig .tc := ⟨.hbm, 231, rfl⟩
abbrev main_v146 : Ref sig .tc := ⟨.hbm, 232, rfl⟩
abbrev main_v147 : Ref sig .tc := ⟨.hbm, 233, rfl⟩
abbrev main_cst_23 : Ref sig .tc := ⟨.hbm, 234, rfl⟩
abbrev main_v148 : Ref sig .tc := ⟨.hbm, 235, rfl⟩
abbrev main_v149 : Ref sig .tc := ⟨.hbm, 236, rfl⟩
abbrev main_cst_24 : Ref sig .tc := ⟨.hbm, 237, rfl⟩
abbrev main_v150 : Ref sig .tc := ⟨.hbm, 238, rfl⟩
abbrev main_v151 : Ref sig .tc := ⟨.hbm, 239, rfl⟩
abbrev main_v152 : Ref sig .tc := ⟨.hbm, 240, rfl⟩
abbrev main_v153 : Ref sig .tc := ⟨.hbm, 241, rfl⟩
abbrev main_cst_25 : Ref sig .tc := ⟨.hbm, 242, rfl⟩
abbrev main_v154 : Ref sig .tc := ⟨.hbm, 243, rfl⟩
abbrev main_v155 : Ref sig .tc := ⟨.hbm, 244, rfl⟩
abbrev main_v156 : Ref sig .tc := ⟨.hbm, 245, rfl⟩
abbrev main_v157 : Ref sig .tc := ⟨.hbm, 246, rfl⟩
abbrev main_v158 : Ref sig .tc := ⟨.hbm, 247, rfl⟩
abbrev main_v159 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_v163 : Ref sig .tc := ⟨.hbm, 252, rfl⟩
abbrev main_v164 : Ref sig .tc := ⟨.hbm, 253, rfl⟩

abbrev nD : Nat := 1
abbrev τ : Topo := Topo.v7x

variable {F : FTy → Type} [FloatOps F]
-- ==== Proof.Spec.lean ====
/-
  The scalar functions both programs compute when the stored rows and the stored scores are zero: a row's score, the
  row kept by it, and the normalized row of the combining network, each over coordinate functions of the arguments.
-/
module

public import Idealize.ShloMosaic.Lib.Pointwise

@[expose] public section

noncomputable section

namespace Cert.Spec

open Idealize.ShloMosaic

/-- A number of the ideal instance. -/
abbrev R : Type := Ideal .f32

/-- The literal of a bit pattern. -/
abbrev lit (w : BitVec 32) : R := Ideal.ofBits .f32 w

/-- The Gaussian error linear unit, with the printed constants one half and one over the square root of two. -/
def gelu (h : R) : R := lit 0x3F000000#32 * h * (1 + Ideal.erf (h * lit 0x3F3504F3#32))

/-- One layer: the products of a row with a weight matrix, summed, plus the bias. -/
def layer {n k : ℕ} (x : Fin n → R) (w : Fin n → Fin k → R) (b : Fin k → R) (j : Fin k) : R := (∑ l, x l * w l j) + b j

/-- The score of a row: two layers, `gelu` between them. -/
def score (w1 : Fin 1024 → Fin 512 → R) (b1 : Fin 512 → R) (w2 : Fin 512 → Fin 1 → R) (b2 : Fin 1 → R) (x : Fin 1024 → R) : R :=
  layer (fun k => gelu (layer x w1 b1 k)) w2 b2 0

/-- The number kept where the score is positive, zero elsewhere. -/
def keep (s x : R) : R := if 0 < s then x else 0

/-- The mean of a row of 1024 numbers. -/
def mean (y : Fin 1024 → R) : R := Ideal.div (∑ j, y j) (lit 0x44800000#32)

/-- The normalization of a row: centred, divided by the deviation, scaled and shifted. -/
def layerNorm (g b : Fin 1024 → R) (y : Fin 1024 → R) (j : Fin 1024) : R :=
  Ideal.div (y j - mean y)
      (Ideal.sqrt (mean (fun l => (y l - mean y) * (y l - mean y)) + lit 0x3727C5AC#32)) * g j + b j

/-- The combined row: the kept row through two layers, `gelu` between them, then normalized. -/
def combined (w1 : Fin 1024 → Fin 2048 → R) (b1 : Fin 2048 → R) (w2 : Fin 2048 → Fin 1024 → R) (b2 g b : Fin 1024 → R)
    (h : Fin 1024 → R) : Fin 1024 → R :=
  layerNorm g b (layer (fun k => gelu (layer h w1 b1 k)) w2 b2)

/-! ## The three results as functions of the arguments -/

section Results

variable (a0 : FVec Ideal ⟨2, ![4096, 1024]⟩ .f32) (a2 : FVec Ideal ⟨2, ![1024, 512]⟩ .f32) (a3 : FVec Ideal ⟨1, ![512]⟩ .f32)
  (a4 : FVec Ideal ⟨2, ![512, 1]⟩ .f32) (a5 : FVec Ideal ⟨1, ![1]⟩ .f32) (a10 : FVec Ideal ⟨2, ![4096, 2048]⟩ .f32)
  (a11 : FVec Ideal ⟨1, ![2048]⟩ .f32) (a12 : FVec Ideal ⟨2, ![2048, 1024]⟩ .f32) (a13 a14 a15 : FVec Ideal ⟨1, ![1024]⟩ .f32)

/-- The score of row `r` of the input. -/
def rowScore (r : Fin 4096) : R :=
  score (fun l k => a2 (ix2 l k)) (fun k => a3 (ix1 k)) (fun k j => a4 (ix2 k j)) (fun j => a5 (ix1 j)) (fun l => a0 (ix2 r l))

/-- Row `r` of the input, kept where its score is positive. -/
def rowKept (r : Fin 4096) (l : Fin 1024) : R := keep (rowScore a0 a2 a3 a4 a5 r) (a0 (ix2 r l))

/-- Row `l` of the first quarter of a matrix of 4096 rows. -/
def quarter (l : Fin 1024) : Fin 4096 := ⟨l.val, by have := l.isLt; omega⟩

/-- The combined result. -/
def resComb : FVec Ideal ⟨2, ![4096, 1024]⟩ .f32 := fun i =>
  combined (fun l k => a10 (ix2 (quarter l) k)) (fun k => a11 (ix1 k)) (fun k j => a12 (ix2 k j)) (fun j => a13 (ix1 j))
    (fun j => a14 (ix1 j)) (fun j => a15 (ix1 j)) (rowKept a0 a2 a3 a4 a5 (i 0)) (i 1)

/-- The updated rows: the kept row in slot 0, zero in the others. -/
def resHyp : FVec Ideal ⟨3, ![4096, 4, 1024]⟩ .f32 := fun i =>
  if ((i 1 : Fin 4) : ℕ) = 0 then rowKept a0 a2 a3 a4 a5 (i 0) (i 2) else 0

/-- The updated scores: the kept score in slot 0, zero in the others. -/
def resScore : FVec Ideal ⟨2, ![4096, 4]⟩ .f32 := fun i =>
  if ((i 1 : Fin 4) : ℕ) = 0 then keep (rowScore a0 a2 a3 a4 a5 (i 0)) (rowScore a0 a2 a3 a4 a5 (i 0)) else 0

end Results

end Cert.Spec

end
-- ==== Proof.Payload.lean ====
/-
  The kernel's stored values read at an index: each is a scalar function of `Spec.lean` of the loaded blocks.
-/
module

public import proofs.«01_k».proof.Proof.Spec
public import proofs.«01_k».proof.Proof.Gen.KernelIdeal.Skeleton

@[expose] public section

set_option maxRecDepth 16384

noncomputable section

namespace Cert.KernelIdeal.Payload

open Cert.KernelIdeal Cert.KernelIdeal.Gen Cert.Spec Idealize.ShloMosaic

variable (x : Vec Ideal S512x1024 .f32) (w1 : Vec Ideal S1024x512 .f32) (b1 : Vec Ideal S1x512 .f32)
  (w2 : Vec Ideal S512x1 .f32) (b2 : Vec Ideal S1x1 .f32)

/-- The score of row `r` of a block. -/
abbrev sc (r : Fin 512) : R :=
  score (fun l k => w1 (ix2 l k)) (fun k => b1 (ix2 0 k)) (fun k j => w2 (ix2 k j)) (fun j => b2 (ix2 0 j)) (fun l => x (ix2 r l))

/-- The score payload is the score of the row. -/
theorem pay3_apply (r : Fin 512) : k0_pay3 x w1 b1 w2 b2 (ix2 r 0) = sc x w1 b1 w2 b2 r := by
  unfold sc score layer gelu
  pointwise [k0_pay3]
  rfl

/-- The kept row of a block at a lane. -/
theorem pay5_apply (r : Fin 512) (l : Fin 1024) : k0_pay5 x w1 b1 w2 b2 (ix2 r l) = keep (sc x w1 b1 w2 b2 r) (x (ix2 r l)) := by
  unfold keep
  pointwise [k0_pay5, k0_pay4]
  rw [pay3_apply]

/-- The scores stored by a block: the kept score in slot 0, zero in the others. -/
theorem pay2_apply (r : Fin 512) (j : Fin 4) : k0_pay2 (k0_pay3 x w1 b1 w2 b2) (k0_pay4 x w1 b1 w2 b2) (ix2 r j) = if (j : ℕ) = 0 then keep (sc x w1 b1 w2 b2 r) (sc x w1 b1 w2 b2 r) else 0 := by
  unfold keep
  pointwise [k0_pay2, k0_pay4]
  rw [pay3_apply]
  fin_cases j <;> rfl

/-- The first layer of the combining network on the kept row. -/
theorem pay6_apply (w3 : Vec Ideal S1024x2048 .f32) (b3 : Vec Ideal S1x2048 .f32) (r : Fin 512) (k : Fin 2048) :
   k0_pay6 x w1 b1 w2 b2 w3 b3 (ix2 r k)
    = layer (fun l => keep (sc x w1 b1 w2 b2 r) (x (ix2 r l))) (fun l k => w3 (ix2 l k)) (fun k => b3 (ix2 0 k)) k := by
  unfold layer
  pointwise [k0_pay6]
  simp only [pay5_apply]

/-- The second layer of the combining network and the normalization, over the first layer `h`. -/
theorem pay8_apply (h : FVec Ideal S512x2048 .f32)  (w4 : Vec Ideal S2048x1024 .f32) (b4 g b : Vec Ideal S1x1024 .f32)  (r : Fin 512) (j : Fin 1024) :
   k0_pay8 h (mulf (broadcast S512x2048 (Scalar.ofBits .f32 0x3F000000#32)) h) (Scalar.ofBits .f32 0x3F3504F3#32) w4 b4 g b (ix2 r j)
    = layerNorm (fun k => g (ix2 0 k)) (fun k => b (ix2 0 k)) (layer (fun k => gelu (h (ix2 r k))) (fun l k => w4 (ix2 l k)) (fun k => b4 (ix2 0 k))) j := by
  unfold layerNorm mean layer gelu
  pointwise [k0_pay8]
  rfl

end Cert.KernelIdeal.Payload

end
-- ==== Proof.Block.lean ====
/-
  What one grid point leaves in each output's block, read at an index: the run's stores read back, as scalar functions
  of the point's input blocks.
-/
module

public import proofs.«01_k».proof.Proof.Payload
public import proofs.«01_k».proof.Proof.Gen.KernelIdeal.Value

@[expose] public section

set_option maxRecDepth 16384

noncomputable section

namespace Cert.KernelIdeal.Block

open Cert.KernelIdeal Cert.KernelIdeal.Gen Cert.KernelIdeal.Payload Cert.Spec Idealize.ShloMosaic Idealize.ShloMosaic.TcCoe Idealize.SL.Sem

/-- The printed offsets of an array of rank 2 are zero. -/
theorem hz2 : (![0, 0] : Fin 2 → Nat) = fun _ => 0 := funext fun a => by fin_cases a <;> rfl
/-- The printed offsets of an array of rank 3 are zero. -/
theorem hz3 : (![0, 0, 0] : Fin 3 → Nat) = fun _ => 0 := funext fun a => by fin_cases a <;> rfl

variable (c : Dev nD) (i : grid0.Coords)
  (a1 : Memref sig .tc .vmem S512x1024 .f32) (h1 : a1.IsWhole)
  (a2 : Memref sig .tc .vmem S1024x512 .f32) (h2 : a2.IsWhole)
  (a3 : Memref sig .tc .vmem S1x512 .f32) (h3 : a3.IsWhole)
  (a4 : Memref sig .tc .vmem S512x1 .f32) (h4 : a4.IsWhole)
  (a5 : Memref sig .tc .vmem S1x1 .f32) (h5 : a5.IsWhole)
  (a6 : Memref sig .tc .vmem S1024x2048 .f32) (h6 : a6.IsWhole)
  (a7 : Memref sig .tc .vmem S1x2048 .f32) (h7 : a7.IsWhole)
  (a8 : Memref sig .tc .vmem S2048x1024 .f32) (h8 : a8.IsWhole)
  (a9 : Memref sig .tc .vmem S1x1024 .f32) (h9 : a9.IsWhole)
  (a10 : Memref sig .tc .vmem S1x1024 .f32) (h10 : a10.IsWhole)
  (a11 : Memref sig .tc .vmem S1x1024 .f32) (h11 : a11.IsWhole)
  (a12 : Memref sig .tc .vmem S512x1024 .f32) (h12 : a12.IsWhole)
  (a13 : Memref sig .tc .vmem S512x4x1024 .f32) (h13 : a13.IsWhole)
  (a14 : Memref sig .tc .vmem S512x4 .f32) (h14 : a14.IsWhole)
  (x0 : Vec Ideal S512x1024 .f32)
  (x1 : Vec Ideal S1024x512 .f32)
  (x2 : Vec Ideal S1x512 .f32)
  (x3 : Vec Ideal S512x1 .f32)
  (x4 : Vec Ideal S1x1 .f32)
  (x5 : Vec Ideal S1024x2048 .f32)
  (x6 : Vec Ideal S1x2048 .f32)
  (x7 : Vec Ideal S2048x1024 .f32)
  (x8 : Vec Ideal S1x1024 .f32)
  (x9 : Vec Ideal S1x1024 .f32)
  (x10 : Vec Ideal S1x1024 .f32)

/-- Output 13 at row `r`, slot `j`: the row's score where it is positive, in slot 0. -/
theorem out_13 (r : Fin 512) (j : Fin 4) :
    out0_A_13 c i a1 h1 a2 h2 a3 h3 a4 h4 a5 h5 a6 h6 a7 h7 a8 h8 a9 h9 a10 h10 a11 h11 a12 h12 a13 h13 a14 h14 x0 x1 x2 x3 x4 x5 x6 x7 x8 x9 x10 (ix2 r j)
      = if (j : ℕ) = 0 then keep (sc x0 x1 x2 x3 x4 r) (sc x0 x1 x2 x3 x4 r) else 0 := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 x0 x1 x2 x3 x4 x5 x6 x7 x8 x9 x10)]
  unfold kernelRun0_A
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, h11.read_unread,
    View.ld_unit_zero (S := S512x1024) hz2, View.ld_unit_zero (S := S1024x512) hz2, View.ld_unit_zero (S := S1x512) hz2, View.ld_unit_zero (S := S512x1) hz2, View.ld_unit_zero (S := S1x1) hz2, View.ld_unit_zero (S := S1024x2048) hz2, View.ld_unit_zero (S := S1x2048) hz2, View.ld_unit_zero (S := S2048x1024) hz2, View.ld_unit_zero (S := S1x1024) hz2]
  exact pay2_apply x0 x1 x2 x3 x4 r j
/-- Output 11 at row `r`, lane `j`: the combined row of the kept row. -/
theorem out_11 (r : Fin 512) (j : Fin 1024) :
    out0_A_11 c i a1 h1 a2 h2 a3 h3 a4 h4 a5 h5 a6 h6 a7 h7 a8 h8 a9 h9 a10 h10 a11 h11 a12 h12 a13 h13 a14 h14 x0 x1 x2 x3 x4 x5 x6 x7 x8 x9 x10 (ix2 r j)
      = combined (fun l k => x5 (ix2 l k)) (fun k => x6 (ix2 0 k)) (fun k j => x7 (ix2 k j)) (fun j => x8 (ix2 0 j))
          (fun j => x9 (ix2 0 j)) (fun j => x10 (ix2 0 j)) (fun l => keep (sc x0 x1 x2 x3 x4 r) (x0 (ix2 r l))) j := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 a14 h14 x0 x1 x2 x3 x4 x5 x6 x7 x8 x9 x10)]
  unfold kernelRun0_A
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, h11.read_unread,
    View.ld_unit_zero (S := S512x1024) hz2, View.ld_unit_zero (S := S1024x512) hz2, View.ld_unit_zero (S := S1x512) hz2, View.ld_unit_zero (S := S512x1) hz2, View.ld_unit_zero (S := S1x1) hz2, View.ld_unit_zero (S := S1024x2048) hz2, View.ld_unit_zero (S := S1x2048) hz2, View.ld_unit_zero (S := S2048x1024) hz2, View.ld_unit_zero (S := S1x1024) hz2]
  refine (pay8_apply (k0_pay6 x0 x1 x2 x3 x4 x5 x6) x7 x8 x9 x10 r j).trans ?_
  simp only [pay6_apply]
  rfl
/-- Output 12 at row `r`, slot `s`, lane `l`: the row where its score is positive, in slot 0. -/
theorem out_12 (r : Fin 512) (s : Fin 4) (l : Fin 1024) :
    out0_A_12 c i a1 h1 a2 h2 a3 h3 a4 h4 a5 h5 a6 h6 a7 h7 a8 h8 a9 h9 a10 h10 a11 h11 a12 h12 a13 h13 a14 h14 x0 x1 x2 x3 x4 x5 x6 x7 x8 x9 x10 (ix3 r s l)
      = if (s : ℕ) = 0 then keep (sc x0 x1 x2 x3 x4 r) (x0 (ix2 r l)) else 0 := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 x0 x1 x2 x3 x4 x5 x6 x7 x8 x9 x10)]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread,
    View.ld_unit_zero (S := S512x1024) hz2, View.ld_unit_zero (S := S1024x512) hz2, View.ld_unit_zero (S := S1x512) hz2, View.ld_unit_zero (S := S512x1) hz2, View.ld_unit_zero (S := S1x1) hz2, View.ld_unit_zero (S := S1024x2048) hz2, View.ld_unit_zero (S := S1x2048) hz2, View.ld_unit_zero (S := S2048x1024) hz2, View.ld_unit_zero (S := S1x1024) hz2]
  by_cases hs : (s : ℕ) = 0
  · have hs' : s = 0 := Fin.ext hs
    rw [if_pos hs]
    subst hs'
    have e : (ix3 r 0 l : S512x4x1024.Idx)
        = (Rect.unit (s := S512x4x1024) ![0, 0, 0] S512x1x1024.size inb_S512x4x1024_S512x1x1024_0_0_0).emb
            (ix3 r 0 l : S512x1x1024.Idx) := by
      funext a; apply Fin.ext
      match a with
      | ⟨0, _⟩ => show r.val = 0 + 1 * r.val; omega
      | ⟨1, _⟩ => rfl
      | ⟨2, _⟩ => show l.val = 0 + 1 * l.val; omega
    rw [e]
    refine (View.canon_cons_emb _ _ _ _).trans ?_
    rw [← pay5_apply]
    pointwise [k0_pay1]
  · rw [if_neg hs]
    refine (View.canon_cons_of_not_mem _ _ ?_).trans ?_
    · rw [Rect.mem_set_unit]
      intro h
      have := (h 1).2
      have h2 : (s : ℕ) < 0 + 1 := this
      omega
    · rw [View.canon_unit_zero hz3]
      pointwise [k0_pay9]

end Cert.KernelIdeal.Block

end
-- ==== Proof.Arrays.lean ====
/-
  The kernel's three result arrays after the run, as functions of its arguments: the input blocks read off the
  arguments, each point's write-back one block of the result, and the eight blocks covering it.
-/
module

public import proofs.«01_k».proof.Proof.Block
public import Idealize.ShloMosaic.Lib.StableHlo.Run

@[expose] public section

set_option maxRecDepth 16384

noncomputable section

namespace Cert.KernelIdeal.Arrays

open Cert.KernelIdeal Cert.KernelIdeal.Gen Cert.KernelIdeal.Payload Cert.Spec Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- What device `c` holds in a buffer at the launch. -/
abbrev arg (c : Dev nD) (b : Ref sig .tc) : Buf (Elt Ideal) ((c : Thread nD τ).loc b) := m ((c : Thread nD τ).loc b)

/-! ## The input blocks -/

/-- The row of the whole array that is row `r` of block `t`. -/
def row (t : Fin cfg0.N) (r : Fin 512) : Fin 4096 :=
  ⟨512 * t.val + r.val, by have h : t.val < 8 := lt_of_lt_of_eq t.isLt N_0; have := r.isLt; omega⟩

/-- The row windows move by one block per point. -/
theorem index_rows : ∀ t : Fin cfg0.N, (win0_0.index t 0 = t.val ∧ win0_0.index t 1 = 0)
    ∧ (win0_11.index t 0 = t.val ∧ win0_11.index t 1 = 0)
    ∧ (win0_12.index t 0 = t.val ∧ win0_12.index t 1 = 0 ∧ win0_12.index t 2 = 0)
    ∧ (win0_13.index t 0 = t.val ∧ win0_13.index t 1 = 0) :=
  (by decide +kernel : ∀ t : Fin grid0.N, (win0_0.index t 0 = t.val ∧ win0_0.index t 1 = 0)
    ∧ (win0_11.index t 0 = t.val ∧ win0_11.index t 1 = 0)
    ∧ (win0_12.index t 0 = t.val ∧ win0_12.index t 1 = 0 ∧ win0_12.index t 2 = 0)
    ∧ (win0_13.index t 0 = t.val ∧ win0_13.index t 1 = 0))

/-- The weight windows stay at the first block. -/
theorem index_weights : ∀ (t : Fin cfg0.N) (a : Fin 2), win0_1.index t a = 0 ∧ win0_2.index t a = 0 ∧ win0_3.index t a = 0
    ∧ win0_4.index t a = 0 ∧ win0_5.index t a = 0 ∧ win0_6.index t a = 0 ∧ win0_7.index t a = 0 ∧ win0_8.index t a = 0
    ∧ win0_9.index t a = 0 ∧ win0_10.index t a = 0 :=
  (by decide +kernel : ∀ (t : Fin grid0.N) (a : Fin 2), win0_1.index t a = 0 ∧ win0_2.index t a = 0 ∧ win0_3.index t a = 0
    ∧ win0_4.index t a = 0 ∧ win0_5.index t a = 0 ∧ win0_6.index t a = 0 ∧ win0_7.index t a = 0 ∧ win0_8.index t a = 0
    ∧ win0_9.index t a = 0 ∧ win0_10.index t a = 0)

/-- A window whose block is its whole array, at the first block, reads the array. -/
theorem read_whole (b : Ref sig .tc) (ix : Fin b.ty.shape.rank → ℕ) (h : ∀ a, ix a = 0)
    (inb : ∀ a, ix a * b.ty.shape.size a + b.ty.shape.size a ≤ b.ty.shape.size a) (f : b.ty.Contents (Elt Ideal)) :
    ((Memref.whole b).access (Rect.unit (fun a => ix a * b.ty.shape.size a) b.ty.shape.size inb)).read (Elt Ideal) f = f :=
  Memref.read_access_unit_zero (Elt Ideal) b (funext fun a => by rw [h a, Nat.zero_mul]) inb f

/-- The reshaped biases as the region finds them. -/
theorem V_bias (c : Dev nD) :
    V m c main_call0_v0 = shapeCast S1x512 (arg m c main_arg3 : Vec Ideal S512 .f32) shapeCasts_S512_S1x512
    ∧ V m c main_call0_v1 = shapeCast S1x1 (arg m c main_arg5 : Vec Ideal S1 .f32) shapeCasts_S1_S1x1
    ∧ V m c main_call0_v2 = shapeCast S1x2048 (arg m c main_arg11 : Vec Ideal S2048 .f32) shapeCasts_S2048_S1x2048
    ∧ V m c main_call0_v3 = shapeCast S1x1024 (arg m c main_arg13 : Vec Ideal S1024 .f32) shapeCasts_S1024_S1x1024
    ∧ V m c main_call0_v4 = shapeCast S1x1024 (arg m c main_arg14 : Vec Ideal S1024 .f32) shapeCasts_S1024_S1x1024
    ∧ V m c main_call0_v5 = shapeCast S1x1024 (arg m c main_arg15 : Vec Ideal S1024 .f32) shapeCasts_S1024_S1x1024 := by
  unfold V arg
  simp only [hostOps0, StableHlo.TRef.reshape]
  refine ⟨?_, ?_, ?_, ?_, ?_, ?_⟩ <;> (after_results_simp; rfl)

/-- Block `t` of the rows. -/
theorem iblk0 (c : Dev nD) (t : Fin cfg0.N) (r : Fin 512) (l : Fin 1024) :
    (iblk m c 0 t : Vec Ideal S512x1024 .f32) (ix2 r l) = (arg m c main_arg0 : Vec Ideal S4096x1024 .f32) (ix2 (row t r) l) := by
  unfold iblk
  rw [View.read_apply]
  show V m c main_arg0 _ = _
  rw [V_main_arg0]
  congr 1
  funext a
  apply Fin.ext
  match a with
  | ⟨0, _⟩ => show win0_0.index t 0 * 512 + 1 * r.val = 512 * t.val + r.val; rw [(index_rows t).1.1]; omega
  | ⟨1, _⟩ => show win0_0.index t 1 * 1024 + 1 * l.val = l.val; rw [(index_rows t).1.2]; omega

/-- The first quarter of the combining network's first weights. -/
theorem iblk5 (c : Dev nD) (t : Fin cfg0.N) (l : Fin 1024) (k : Fin 2048) :
    (iblk m c 5 t : Vec Ideal S1024x2048 .f32) (ix2 l k) = (arg m c main_arg10 : Vec Ideal S4096x2048 .f32) (ix2 (quarter l) k) := by
  unfold iblk
  rw [View.read_apply]
  show V m c main_arg10 _ = _
  rw [V_main_arg10]
  congr 1
  funext a
  apply Fin.ext
  match a with
  | ⟨0, _⟩ => show win0_5.index t 0 * 1024 + 1 * l.val = l.val; rw [(index_weights t 0).2.2.2.2.1]; omega
  | ⟨1, _⟩ => show win0_5.index t 1 * 2048 + 1 * k.val = k.val; rw [(index_weights t 1).2.2.2.2.1]; omega

/-- The weights of the other layers, whole. -/
theorem iblk_weights (c : Dev nD) (t : Fin cfg0.N) :
    (iblk m c 1 t : Vec Ideal S1024x512 .f32) = arg m c main_arg2 ∧ (iblk m c 3 t : Vec Ideal S512x1 .f32) = arg m c main_arg4
    ∧ (iblk m c 7 t : Vec Ideal S2048x1024 .f32) = arg m c main_arg12 :=
  ⟨(read_whole main_arg2 _ (fun a => (index_weights t a).1) _ _).trans (V_main_arg2 m c),
   (read_whole main_arg4 _ (fun a => (index_weights t a).2.2.1) _ _).trans (V_main_arg4 m c),
   (read_whole main_arg12 _ (fun a => (index_weights t a).2.2.2.2.2.2.1) _ _).trans (V_main_arg12 m c)⟩

set_option maxHeartbeats 2000000 in
/-- The biases, read at a coordinate. -/
theorem iblk_bias (c : Dev nD) (t : Fin cfg0.N) :
    (∀ k, (iblk m c 2 t : Vec Ideal S1x512 .f32) (ix2 0 k) = (arg m c main_arg3 : Vec Ideal S512 .f32) (ix1 k))
    ∧ (∀ k, (iblk m c 4 t : Vec Ideal S1x1 .f32) (ix2 0 k) = (arg m c main_arg5 : Vec Ideal S1 .f32) (ix1 k))
    ∧ (∀ k, (iblk m c 6 t : Vec Ideal S1x2048 .f32) (ix2 0 k) = (arg m c main_arg11 : Vec Ideal S2048 .f32) (ix1 k))
    ∧ (∀ k, (iblk m c 8 t : Vec Ideal S1x1024 .f32) (ix2 0 k) = (arg m c main_arg13 : Vec Ideal S1024 .f32) (ix1 k))
    ∧ (∀ k, (iblk m c 9 t : Vec Ideal S1x1024 .f32) (ix2 0 k) = (arg m c main_arg14 : Vec Ideal S1024 .f32) (ix1 k))
    ∧ (∀ k, (iblk m c 10 t : Vec Ideal S1x1024 .f32) (ix2 0 k) = (arg m c main_arg15 : Vec Ideal S1024 .f32) (ix1 k)) := by
  have h2 : (iblk m c 2 t : Vec Ideal S1x512 .f32) = V m c main_call0_v0 :=
    read_whole main_call0_v0 _ (fun a => (index_weights t a).2.1) _ _
  have h4 : (iblk m c 4 t : Vec Ideal S1x1 .f32) = V m c main_call0_v1 :=
    read_whole main_call0_v1 _ (fun a => (index_weights t a).2.2.2.1) _ _
  have h6 : (iblk m c 6 t : Vec Ideal S1x2048 .f32) = V m c main_call0_v2 :=
    read_whole main_call0_v2 _ (fun a => (index_weights t a).2.2.2.2.2.1) _ _
  have h8 : (iblk m c 8 t : Vec Ideal S1x1024 .f32) = V m c main_call0_v3 :=
    read_whole main_call0_v3 _ (fun a => (index_weights t a).2.2.2.2.2.2.2.1) _ _
  have h9 : (iblk m c 9 t : Vec Ideal S1x1024 .f32) = V m c main_call0_v4 :=
    read_whole main_call0_v4 _ (fun a => (index_weights t a).2.2.2.2.2.2.2.2.1) _ _
  have h10 : (iblk m c 10 t : Vec Ideal S1x1024 .f32) = V m c main_call0_v5 :=
    read_whole main_call0_v5 _ (fun a => (index_weights t a).2.2.2.2.2.2.2.2.2) _ _
  refine ⟨fun k => ?_, fun k => ?_, fun k => ?_, fun k => ?_, fun k => ?_, fun k => ?_⟩
  · rw [h2, (V_bias m c).1]; pointwise
  · obtain rfl : k = 0 := Subsingleton.elim _ _
    rw [h4, (V_bias m c).2.1]; pointwise
  · rw [h6, (V_bias m c).2.2.1]; pointwise
  · rw [h8, (V_bias m c).2.2.2.1]; pointwise
  · rw [h9, (V_bias m c).2.2.2.2.1]; pointwise
  · rw [h10, (V_bias m c).2.2.2.2.2]; pointwise

/-! ## The results as functions of the arguments -/

/-- The score of a row of the whole array. -/
abbrev rowSc (c : Dev nD) : Fin 4096 → R :=
  rowScore (arg m c main_arg0) (arg m c main_arg2) (arg m c main_arg3) (arg m c main_arg4) (arg m c main_arg5)

/-- The combined result. -/
abbrev comb (c : Dev nD) : Buf (Elt Ideal) ((c : Thread nD τ).loc main_v0_0) :=
  resComb (arg m c main_arg0) (arg m c main_arg2) (arg m c main_arg3) (arg m c main_arg4) (arg m c main_arg5)
    (arg m c main_arg10) (arg m c main_arg11) (arg m c main_arg12) (arg m c main_arg13) (arg m c main_arg14) (arg m c main_arg15)

/-- The updated rows. -/
abbrev hyp (c : Dev nD) : Buf (Elt Ideal) ((c : Thread nD τ).loc main_v0_1) :=
  resHyp (arg m c main_arg0) (arg m c main_arg2) (arg m c main_arg3) (arg m c main_arg4) (arg m c main_arg5)

/-- The updated scores. -/
abbrev scores (c : Dev nD) : Buf (Elt Ideal) ((c : Thread nD τ).loc main_v0_2) :=
  resScore (arg m c main_arg0) (arg m c main_arg2) (arg m c main_arg3) (arg m c main_arg4) (arg m c main_arg5)

/-- The score of row `r` of block `t` is the score of that row of the whole array. -/
theorem sc_iblk (c : Dev nD) (t : Fin cfg0.N) (r : Fin 512) :
    sc (iblk m c 0 t) (iblk m c 1 t) (iblk m c 2 t) (iblk m c 3 t) (iblk m c 4 t) r = rowSc m c (row t r) := by
  unfold sc rowSc rowScore
  simp only [iblk0, (iblk_weights m c t).1, (iblk_weights m c t).2.1, (iblk_bias m c t).1, (iblk_bias m c t).2.1]

/-- What is written back to the scores at point `t` is block `t` of the result. -/
theorem flushed13 (c : Dev nD) (t : Fin cfg0.N) :
    (dats m 0 c).flushed 13 t = ((cfg0.win 13).blk t).view.read (Elt Ideal) (scores m c) := by
  rw [Value.flushed13_A]
  funext x
  rw [View.read_apply]
  obtain ⟨r, j, rfl⟩ : ∃ (r : Fin 512) (j : Fin 4), x = (ix2 r j : S512x4.Idx) := ⟨_, _, eq_ix2 x⟩
  have e : ((cfg0.win 13).blk t).view.emb (ix2 r j : S512x4.Idx) = (ix2 (row t r) j : S4096x4.Idx) := by
    funext a
    apply Fin.ext
    match a with
    | ⟨0, _⟩ => show win0_13.index t 0 * 512 + 1 * r.val = 512 * t.val + r.val; rw [(index_rows t).2.2.2.1]; omega
    | ⟨1, _⟩ => show win0_13.index t 1 * 4 + 1 * j.val = j.val; rw [(index_rows t).2.2.2.2]; omega
  refine (Block.out_13 _ _ _ _ _ _ _ _ _ _ _ _ _ _ _ _ _ _ _ _ _ _ _ _ _ _ _ _ _ _ _ _ _ _ _ _ _ _ _ _ _ r j).trans ?_
  rw [sc_iblk]
  show _ = scores m c (((cfg0.win 13).blk t).view.emb (ix2 r j : S512x4.Idx))
  rw [e]
  rfl

/-- What is written back to the rows at point `t` is block `t` of the result. -/
theorem flushed12 (c : Dev nD) (t : Fin cfg0.N) :
    (dats m 0 c).flushed 12 t = ((cfg0.win 12).blk t).view.read (Elt Ideal) (hyp m c) := by
  rw [Value.flushed12_A]
  funext x
  rw [View.read_apply]
  obtain ⟨r, s, l, rfl⟩ : ∃ (r : Fin 512) (s : Fin 4) (l : Fin 1024), x = (ix3 r s l : S512x4x1024.Idx) := ⟨_, _, _, eq_ix3 x⟩
  have e : ((cfg0.win 12).blk t).view.emb (ix3 r s l : S512x4x1024.Idx) = (ix3 (row t r) s l : S4096x4x1024.Idx) := by
    funext a
    apply Fin.ext
    match a with
    | ⟨0, _⟩ => show win0_12.index t 0 * 512 + 1 * r.val = 512 * t.val + r.val; rw [(index_rows t).2.2.1.1]; omega
    | ⟨1, _⟩ => show win0_12.index t 1 * 4 + 1 * s.val = s.val; rw [(index_rows t).2.2.1.2.1]; omega
    | ⟨2, _⟩ => show win0_12.index t 2 * 1024 + 1 * l.val = l.val; rw [(index_rows t).2.2.1.2.2]; omega
  refine (Block.out_12 _ _ _ _ _ _ _ _ _ _ _ _ _ _ _ _ _ _ _ _ _ _ _ _ _ _ _ _ _ _ _ _ _ _ _ _ _ _ _ _ _ r s l).trans ?_
  rw [sc_iblk]
  show _ = hyp m c (((cfg0.win 12).blk t).view.emb (ix3 r s l : S512x4x1024.Idx))
  rw [e]
  rw [iblk0]
  rfl

/-- What is written back to the combined result at point `t` is block `t` of the result. -/
theorem flushed11 (c : Dev nD) (t : Fin cfg0.N) :
    (dats m 0 c).flushed 11 t = ((cfg0.win 11).blk t).view.read (Elt Ideal) (comb m c) := by
  rw [Value.flushed11_A]
  funext x
  rw [View.read_apply]
  obtain ⟨r, j, rfl⟩ : ∃ (r : Fin 512) (j : Fin 1024), x = (ix2 r j : S512x1024.Idx) := ⟨_, _, eq_ix2 x⟩
  have e : ((cfg0.win 11).blk t).view.emb (ix2 r j : S512x1024.Idx) = (ix2 (row t r) j : S4096x1024.Idx) := by
    funext a
    apply Fin.ext
    match a with
    | ⟨0, _⟩ => show win0_11.index t 0 * 512 + 1 * r.val = 512 * t.val + r.val; rw [(index_rows t).2.1.1]; omega
    | ⟨1, _⟩ => show win0_11.index t 1 * 1024 + 1 * j.val = j.val; rw [(index_rows t).2.1.2]; omega
  refine (Block.out_11 _ _ _ _ _ _ _ _ _ _ _ _ _ _ _ _ _ _ _ _ _ _ _ _ _ _ _ _ _ _ _ _ _ _ _ _ _ _ _ _ _ r j).trans ?_
  rw [sc_iblk]
  show _ = comb m c (((cfg0.win 11).blk t).view.emb (ix2 r j : S512x1024.Idx))
  rw [e]
  simp only [iblk0, iblk5, (iblk_weights m c t).2.2, (iblk_bias m c t).2.2.1, (iblk_bias m c t).2.2.2.1,
    (iblk_bias m c t).2.2.2.2.1, (iblk_bias m c t).2.2.2.2.2]
  rfl

/-! ## The blocks cover the results -/

/-- Where the blocks of output 11 lie. -/
theorem place11 : ∀ t : Fin cfg0.N, win0_11.index t 0 * win0_11.size 0 = t.val * 512 ∧ win0_11.xsize (grid0.coords t) 0 = 512 ∧ win0_11.index t 1 * win0_11.size 1 = 0 ∧ win0_11.xsize (grid0.coords t) 1 = 1024 :=
  (by decide +kernel : ∀ t : Fin grid0.N, win0_11.index t 0 * win0_11.size 0 = t.val * 512 ∧ win0_11.xsize (grid0.coords t) 0 = 512 ∧ win0_11.index t 1 * win0_11.size 1 = 0 ∧ win0_11.xsize (grid0.coords t) 1 = 1024)

/-- Every index of output 11 lies in the block of its row. -/
theorem cover11 (i : S4096x1024.Idx) : ∃ t : Fin cfg0.N, (cfg0.win 11).flush t = true ∧ i ∈ ((cfg0.win 11).blk t).view.set := by
  have h0 : (i 0 : ℕ) < 4096 := (i 0).isLt
  refine ⟨⟨(i 0 : ℕ) / 512, by rw [show cfg0.N = 8 from N_0]; omega⟩, flush0_11 _, ?_⟩
  generalize ht : (⟨(i 0 : ℕ) / 512, _⟩ : Fin cfg0.N) = t
  have hv : t.val = (i 0 : ℕ) / 512 := by rw [← ht]
  have e := place11 t
  show i ∈ ((View.whole main_v0_0).slice (win0_11.rect t)).set
  rw [View.set_slice_whole, Rect.mem_set_unit]
  intro a
  match a with
  | ⟨0, _⟩ =>
    show win0_11.index t 0 * win0_11.size 0 ≤ (i 0 : ℕ) ∧ (i 0 : ℕ) < win0_11.index t 0 * win0_11.size 0 + win0_11.xsize (grid0.coords t) 0
    have h : (i 0 : ℕ) < 4096 := (i 0).isLt
    rw [e.1, e.2.1]; omega
  | ⟨1, _⟩ =>
    show win0_11.index t 1 * win0_11.size 1 ≤ (i 1 : ℕ) ∧ (i 1 : ℕ) < win0_11.index t 1 * win0_11.size 1 + win0_11.xsize (grid0.coords t) 1
    have h : (i 1 : ℕ) < 1024 := (i 1).isLt
    rw [e.2.2.1, e.2.2.2]; omega

/-- Where the blocks of output 12 lie. -/
theorem place12 : ∀ t : Fin cfg0.N, win0_12.index t 0 * win0_12.size 0 = t.val * 512 ∧ win0_12.xsize (grid0.coords t) 0 = 512 ∧ win0_12.index t 1 * win0_12.size 1 = 0 ∧ win0_12.xsize (grid0.coords t) 1 = 4 ∧ win0_12.index t 2 * win0_12.size 2 = 0 ∧ win0_12.xsize (grid0.coords t) 2 = 1024 :=
  (by decide +kernel : ∀ t : Fin grid0.N, win0_12.index t 0 * win0_12.size 0 = t.val * 512 ∧ win0_12.xsize (grid0.coords t) 0 = 512 ∧ win0_12.index t 1 * win0_12.size 1 = 0 ∧ win0_12.xsize (grid0.coords t) 1 = 4 ∧ win0_12.index t 2 * win0_12.size 2 = 0 ∧ win0_12.xsize (grid0.coords t) 2 = 1024)

/-- Every index of output 12 lies in the block of its row. -/
theorem cover12 (i : S4096x4x1024.Idx) : ∃ t : Fin cfg0.N, (cfg0.win 12).flush t = true ∧ i ∈ ((cfg0.win 12).blk t).view.set := by
  have h0 : (i 0 : ℕ) < 4096 := (i 0).isLt
  refine ⟨⟨(i 0 : ℕ) / 512, by rw [show cfg0.N = 8 from N_0]; omega⟩, flush0_12 _, ?_⟩
  generalize ht : (⟨(i 0 : ℕ) / 512, _⟩ : Fin cfg0.N) = t
  have hv : t.val = (i 0 : ℕ) / 512 := by rw [← ht]
  have e := place12 t
  show i ∈ ((View.whole main_v0_1).slice (win0_12.rect t)).set
  rw [View.set_slice_whole, Rect.mem_set_unit]
  intro a
  match a with
  | ⟨0, _⟩ =>
    show win0_12.index t 0 * win0_12.size 0 ≤ (i 0 : ℕ) ∧ (i 0 : ℕ) < win0_12.index t 0 * win0_12.size 0 + win0_12.xsize (grid0.coords t) 0
    have h : (i 0 : ℕ) < 4096 := (i 0).isLt
    rw [e.1, e.2.1]; omega
  | ⟨1, _⟩ =>
    show win0_12.index t 1 * win0_12.size 1 ≤ (i 1 : ℕ) ∧ (i 1 : ℕ) < win0_12.index t 1 * win0_12.size 1 + win0_12.xsize (grid0.coords t) 1
    have h : (i 1 : ℕ) < 4 := (i 1).isLt
    rw [e.2.2.1, e.2.2.2.1]; omega
  | ⟨2, _⟩ =>
    show win0_12.index t 2 * win0_12.size 2 ≤ (i 2 : ℕ) ∧ (i 2 : ℕ) < win0_12.index t 2 * win0_12.size 2 + win0_12.xsize (grid0.coords t) 2
    have h : (i 2 : ℕ) < 1024 := (i 2).isLt
    rw [e.2.2.2.2.1, e.2.2.2.2.2]; omega

/-- Where the blocks of output 13 lie. -/
theorem place13 : ∀ t : Fin cfg0.N, win0_13.index t 0 * win0_13.size 0 = t.val * 512 ∧ win0_13.xsize (grid0.coords t) 0 = 512 ∧ win0_13.index t 1 * win0_13.size 1 = 0 ∧ win0_13.xsize (grid0.coords t) 1 = 4 :=
  (by decide +kernel : ∀ t : Fin grid0.N, win0_13.index t 0 * win0_13.size 0 = t.val * 512 ∧ win0_13.xsize (grid0.coords t) 0 = 512 ∧ win0_13.index t 1 * win0_13.size 1 = 0 ∧ win0_13.xsize (grid0.coords t) 1 = 4)

/-- Every index of output 13 lies in the block of its row. -/
theorem cover13 (i : S4096x4.Idx) : ∃ t : Fin cfg0.N, (cfg0.win 13).flush t = true ∧ i ∈ ((cfg0.win 13).blk t).view.set := by
  have h0 : (i 0 : ℕ) < 4096 := (i 0).isLt
  refine ⟨⟨(i 0 : ℕ) / 512, by rw [show cfg0.N = 8 from N_0]; omega⟩, flush0_13 _, ?_⟩
  generalize ht : (⟨(i 0 : ℕ) / 512, _⟩ : Fin cfg0.N) = t
  have hv : t.val = (i 0 : ℕ) / 512 := by rw [← ht]
  have e := place13 t
  show i ∈ ((View.whole main_v0_2).slice (win0_13.rect t)).set
  rw [View.set_slice_whole, Rect.mem_set_unit]
  intro a
  match a with
  | ⟨0, _⟩ =>
    show win0_13.index t 0 * win0_13.size 0 ≤ (i 0 : ℕ) ∧ (i 0 : ℕ) < win0_13.index t 0 * win0_13.size 0 + win0_13.xsize (grid0.coords t) 0
    have h : (i 0 : ℕ) < 4096 := (i 0).isLt
    rw [e.1, e.2.1]; omega
  | ⟨1, _⟩ =>
    show win0_13.index t 1 * win0_13.size 1 ≤ (i 1 : ℕ) ∧ (i 1 : ℕ) < win0_13.index t 1 * win0_13.size 1 + win0_13.xsize (grid0.coords t) 1
    have h : (i 1 : ℕ) < 4 := (i 1).isLt
    rw [e.2.2.1, e.2.2.2]; omega

/-- The result arrays after the run, device by device. -/
theorem finals (c : Dev nD) : (dats m 0 c).arrAt 11 cfg0.N = comb m c ∧ (dats m 0 c).arrAt 12 cfg0.N = hyp m c
    ∧ (dats m 0 c).arrAt 13 cfg0.N = scores m c :=
  ⟨(dats m 0 c).arrAt_eq_of_cover 11 (comb m c) (fun t _ => flushed11 m c t) cover11,
   (dats m 0 c).arrAt_eq_of_cover 12 (hyp m c) (fun t _ => flushed12 m c t) cover12,
   (dats m 0 c).arrAt_eq_of_cover 13 (scores m c) (fun t _ => flushed13 m c t) cover13⟩

end Cert.KernelIdeal.Arrays

end
-- ==== Proof.RefOps.lean ====
/- The reference's @main as a list of its host operations, cut at the steps of the mathematics, and its run: every weakly
   fair execution terminates, and each buffer ends at what the operations leave there (`run_all`). The two `argmin` /
   `argmax` calls make this module necessary by hand. Each chunk comes with the list of the buffers it writes; `keep…`
   says that every other buffer passes through it. -/
module

public import proofs.«01_k».proof.Proof.Gen.ReferenceIdeal
public import Idealize.ShloMosaic.Lib.StableHlo.Run
public import Idealize.ShloMosaic.Lib.Pipeline.Frame

@[expose] public section

set_option maxRecDepth 16384
set_option Elab.async false

noncomputable section

namespace Cert.ReferenceIdeal.Host

open Cert.ReferenceIdeal Cert.ReferenceIdeal.Gen Idealize.ShloMosaic Idealize.ShloMosaic.TcCoe Idealize.SL.Sem Idealize.ShloMosaic.StableHlo

variable {F : FTy → Type} [FloatOps F]

/-- A float tensor's contents, of the shape given. -/
abbrev Fl (F : FTy → Type) (S : Shape) : Type := (⟨S, .f32⟩ : BufTy).Contents (Elt F)
/-- An integer tensor's contents, of the shape given. -/
abbrev In (F : FTy → Type) (S : Shape) : Type := (⟨S, .i32⟩ : BufTy).Contents (Elt F)
/-- A mask's contents, of the shape given. -/
abbrev Mk (F : FTy → Type) (S : Shape) : Type := (⟨S, .i1⟩ : BufTy).Contents (Elt F)

/-- The operations of the score of each row: the scorer network `main_v0 … main_v15`. -/
def opsScore : List (HloOp τ sig (Elt F)) :=
  [ binary main_arg0 main_arg2 main_v0 ((fun l r => Host.dotGeneral dot_S4096x1024_S1024x512_S4096x512_1_0_0_1_n_n none l r) : Fl F S4096x1024 → Fl F S1024x512 → Fl F S4096x512),
    unary main_arg3 main_v1 (broadcastInDim S1x512 ![1] bcast_S512_S1x512_1 : Fl F S512 → Fl F S1x512),
    unary main_v1 main_v2 (broadcastInDim S4096x512 ![0, 1] bcast_S1x512_S4096x512_0_1 : Fl F S1x512 → Fl F S4096x512),
    binary main_v0 main_v2 main_v3 (addf : Fl F S4096x512 → Fl F S4096x512 → Fl F S4096x512),
    nullary main_cst (constant S_ .f32 0x3F000000#32),
    unary main_cst main_v4 (broadcastInDim S4096x512 ![] bcast_S_S4096x512 : Fl F S_ → Fl F S4096x512),
    binary main_v4 main_v3 main_v5 (mulf : Fl F S4096x512 → Fl F S4096x512 → Fl F S4096x512),
    unary main_v3 main_v6 (Host.negf : Fl F S4096x512 → Fl F S4096x512),
    nullary main_cst_0 (constant S_ .f32 0x3F3504F3#32),
    unary main_cst_0 main_v7 (broadcastInDim S4096x512 ![] bcast_S_S4096x512 : Fl F S_ → Fl F S4096x512),
    binary main_v6 main_v7 main_v8 (mulf : Fl F S4096x512 → Fl F S4096x512 → Fl F S4096x512),
    unary main_v8 main_v9 (Host.erfc : Fl F S4096x512 → Fl F S4096x512),
    binary main_v5 main_v9 main_v10 (mulf : Fl F S4096x512 → Fl F S4096x512 → Fl F S4096x512),
    binary main_v10 main_arg4 main_v11 ((fun l r => Host.dotGeneral dot_S4096x512_S512x1_S4096x1_1_0_0_1_n_n none l r) : Fl F S4096x512 → Fl F S512x1 → Fl F S4096x1),
    unary main_arg5 main_v12 (broadcastInDim S1x1 ![1] bcast_S1_S1x1_1 : Fl F S1 → Fl F S1x1),
    unary main_v12 main_v13 (broadcastInDim S4096x1 ![0, 1] bcast_S1x1_S4096x1_0_1 : Fl F S1x1 → Fl F S4096x1),
    binary main_v11 main_v13 main_v14 (addf : Fl F S4096x1 → Fl F S4096x1 → Fl F S4096x1),
    reshape main_v14 main_v15 (rfl : (.f32 : EltTy) = .f32) shapeCasts_S4096x1_S4096 ]

/-- The operations of the lowest stored score, its slot, and which rows beat it: `main_v16 … main_v19`. -/
def opsMin : List (HloOp τ sig (Elt F)) :=
  [ TRef.nullary (TRef.of (T := ⟨S4, .i32⟩) main_call0_v0) (iotaInDim S4 32 0),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S4, .f32⟩) main_arg17) (TRef.of (T := ⟨S4, .i32⟩) main_call0_v0) (TRef.of (T := ⟨S_, .f32⟩) main_call0_cst) (TRef.of (T := ⟨S_, .i32⟩) main_call0_c) (TRef.of (T := ⟨S_, .f32⟩) main_call0_v1_0) (fun x y u v j => (Host.argReduce reducer_argmin_f32_i32 x y u v reducesTo_S4_S_d0 h_S_ j).1),
    TRef.quaternary (TRef.of (T := ⟨S4, .f32⟩) main_arg17) (TRef.of (T := ⟨S4, .i32⟩) main_call0_v0) (TRef.of (T := ⟨S_, .f32⟩) main_call0_cst) (TRef.of (T := ⟨S_, .i32⟩) main_call0_c) (TRef.of (T := ⟨S_, .i32⟩) main_v16) (fun x y u v j => (Host.argReduce reducer_argmin_f32_i32 x y u v reducesTo_S4_S_d0 h_S_ j).2),
    nullary main_cst_1 (constant S_ .f32 0x7F800000#32),
    binary main_arg17 main_cst_1 main_v17 ((fun x v => Host.reduce FloatOps.minimumf x v reducesTo_S4_S_d0 h_S_) : Fl F S4 → Fl F S_ → Fl F S_),
    unary main_v17 main_v18 (broadcastInDim S4096 ![] bcast_S_S4096 : Fl F S_ → Fl F S4096),
    binary main_v15 main_v18 main_v19 (cmpf .ogt : Fl F S4096 → Fl F S4096 → Mk F S4096) ]

/-- The operations of the similarity of each row to each stored row: `main_v20 … main_v33`. -/
def opsSims : List (HloOp τ sig (Elt F)) :=
  [ TRef.binary (TRef.of (T := ⟨S4096x1024, .f32⟩) main_arg0) (TRef.of (T := ⟨S4096x1024, .f32⟩) main_arg0) (TRef.of (T := ⟨S4096x1024, .f32⟩) main_call1_v0) mulf,
    TRef.nullary (TRef.of (T := ⟨S_, .f32⟩) main_call1_cst) (constant S_ .f32 0x00000000#32),
    TRef.binary (TRef.of (T := ⟨S4096x1024, .f32⟩) main_call1_v0) (TRef.of (T := ⟨S_, .f32⟩) main_call1_cst) (TRef.of (T := ⟨S4096, .f32⟩) main_call1_v1) (fun x v => Host.reduceAdd x v reducesTo_S4096x1024_S4096_d1 h_S_),
    TRef.unary (TRef.of (T := ⟨S4096, .f32⟩) main_call1_v1) (TRef.of (T := ⟨S4096, .f32⟩) main_v20) Host.sqrt,
    nullary main_cst_2 (constant S_ .f32 0x322BCC77#32),
    unary main_cst_2 main_v21 (broadcastInDim S4096 ![] bcast_S_S4096 : Fl F S_ → Fl F S4096),
    binary main_v20 main_v21 main_v22 (maximumf : Fl F S4096 → Fl F S4096 → Fl F S4096),
    TRef.binary (TRef.of (T := ⟨S4x1024, .f32⟩) main_arg16) (TRef.of (T := ⟨S4x1024, .f32⟩) main_arg16) (TRef.of (T := ⟨S4x1024, .f32⟩) main_call2_v0) mulf,
    TRef.nullary (TRef.of (T := ⟨S_, .f32⟩) main_call2_cst) (constant S_ .f32 0x00000000#32),
    TRef.binary (TRef.of (T := ⟨S4x1024, .f32⟩) main_call2_v0) (TRef.of (T := ⟨S_, .f32⟩) main_call2_cst) (TRef.of (T := ⟨S4, .f32⟩) main_call2_v1) (fun x v => Host.reduceAdd x v reducesTo_S4x1024_S4_d1 h_S_),
    TRef.unary (TRef.of (T := ⟨S4, .f32⟩) main_call2_v1) (TRef.of (T := ⟨S4, .f32⟩) main_v23) Host.sqrt,
    nullary main_cst_3 (constant S_ .f32 0x322BCC77#32),
    unary main_cst_3 main_v24 (broadcastInDim S4 ![] bcast_S_S4 : Fl F S_ → Fl F S4),
    binary main_v23 main_v24 main_v25 (maximumf : Fl F S4 → Fl F S4 → Fl F S4),
    unary main_arg16 main_v26 ((transpose S1024x4 [1, 0] · transposes_S4x1024_S1024x4_1_0) : Fl F S4x1024 → Fl F S1024x4),
    binary main_arg0 main_v26 main_v27 ((fun l r => Host.dotGeneral dot_S4096x1024_S1024x4_S4096x4_1_0_0_1_n_n none l r) : Fl F S4096x1024 → Fl F S1024x4 → Fl F S4096x4),
    unary main_v22 main_v28 (broadcastInDim S4096x1 ![0] bcast_S4096_S4096x1_0 : Fl F S4096 → Fl F S4096x1),
    unary main_v25 main_v29 (broadcastInDim S1x4 ![1] bcast_S4_S1x4_1 : Fl F S4 → Fl F S1x4),
    unary main_v28 main_v30 (broadcastInDim S4096x4 ![0, 1] bcast_S4096x1_S4096x4_0_1 : Fl F S4096x1 → Fl F S4096x4),
    unary main_v29 main_v31 (broadcastInDim S4096x4 ![0, 1] bcast_S1x4_S4096x4_0_1 : Fl F S1x4 → Fl F S4096x4),
    binary main_v30 main_v31 main_v32 (mulf : Fl F S4096x4 → Fl F S4096x4 → Fl F S4096x4),
    binary main_v27 main_v32 main_v33 (Host.divf : Fl F S4096x4 → Fl F S4096x4 → Fl F S4096x4) ]

/-- The operations of the most similar slot and its similarity: `main_v34 … main_v37`. -/
def opsPick : List (HloOp τ sig (Elt F)) :=
  [ TRef.nullary (TRef.of (T := ⟨S4096x4, .i32⟩) main_call3_v0) (iotaInDim S4096x4 32 1),
    TRef.nullary (TRef.of (T := ⟨S_, .f32⟩) main_call3_cst) (constant S_ .f32 0xFF800000#32),
    TRef.nullary (TRef.of (T := ⟨S_, .i32⟩) main_call3_c) (constantI S_ 32 0#32),
    TRef.quaternary (TRef.of (T := ⟨S4096x4, .f32⟩) main_v33) (TRef.of (T := ⟨S4096x4, .i32⟩) main_call3_v0) (TRef.of (T := ⟨S_, .f32⟩) main_call3_cst) (TRef.of (T := ⟨S_, .i32⟩) main_call3_c) (TRef.of (T := ⟨S4096, .f32⟩) main_call3_v1_0) (fun x y u v j => (Host.argReduce reducer_argmax_f32_i32 x y u v reducesTo_S4096x4_S4096_d1 h_S_ j).1),
    TRef.quaternary (TRef.of (T := ⟨S4096x4, .f32⟩) main_v33) (TRef.of (T := ⟨S4096x4, .i32⟩) main_call3_v0) (TRef.of (T := ⟨S_, .f32⟩) main_call3_cst) (TRef.of (T := ⟨S_, .i32⟩) main_call3_c) (TRef.of (T := ⟨S4096, .i32⟩) main_v34) (fun x y u v j => (Host.argReduce reducer_argmax_f32_i32 x y u v reducesTo_S4096x4_S4096_d1 h_S_ j).2),
    unary main_v34 main_v35 (broadcastInDim S4096x1 ![0] bcast_S4096_S4096x1_0 : In F S4096 → In F S4096x1),
    TRef.nullary (TRef.of (T := ⟨S_, .i32⟩) main_call4_c) (constantI S_ 32 0#32),
    TRef.unary (TRef.of (T := ⟨S_, .i32⟩) main_call4_c) (TRef.of (T := ⟨S4096x1, .i32⟩) main_call4_v0) (broadcastInDim S4096x1 ![] bcast_S_S4096x1),
    TRef.binary (TRef.of (T := ⟨S4096x1, .i32⟩) main_v35) (TRef.of (T := ⟨S4096x1, .i32⟩) main_call4_v0) (TRef.of (T := ⟨S4096x1, .i1⟩) main_call4_v1) (cmpi .slt),
    TRef.nullary (TRef.of (T := ⟨S_, .i32⟩) main_call4_c_0) (constantI S_ 32 4#32),
    TRef.unary (TRef.of (T := ⟨S_, .i32⟩) main_call4_c_0) (TRef.of (T := ⟨S4096x1, .i32⟩) main_call4_v2) (broadcastInDim S4096x1 ![] bcast_S_S4096x1),
    TRef.binary (TRef.of (T := ⟨S4096x1, .i32⟩) main_v35) (TRef.of (T := ⟨S4096x1, .i32⟩) main_call4_v2) (TRef.of (T := ⟨S4096x1, .i32⟩) main_call4_v3) addi,
    TRef.ternary (TRef.of (T := ⟨S4096x1, .i1⟩) main_call4_v1) (TRef.of (T := ⟨S4096x1, .i32⟩) main_call4_v3) (TRef.of (T := ⟨S4096x1, .i32⟩) main_v35) (TRef.of (T := ⟨S4096x1, .i32⟩) main_call4_v4) select,
    TRef.reshape (TRef.of (T := ⟨S4096x1, .i32⟩) main_call4_v4) (TRef.of (T := ⟨S4096x1x1, .i32⟩) main_call4_v5) (rfl : (.i32 : EltTy) = .i32) shapeCasts_S4096x1_S4096x1x1,
    TRef.nullary (TRef.of (T := ⟨S1, .i32⟩) main_call4_c_1) (constantI S1 32 3#32),
    TRef.nullary (TRef.of (T := ⟨S_, .i32⟩) main_call4_c_2) (constantI S_ 32 0#32),
    TRef.unary (TRef.of (T := ⟨S_, .i32⟩) main_call4_c_2) (TRef.of (T := ⟨S4096x1x1, .i32⟩) main_call4_v6) (broadcastInDim S4096x1x1 ![] bcast_S_S4096x1x1),
    TRef.binary (TRef.of (T := ⟨S4096x1x1, .i32⟩) main_call4_v5) (TRef.of (T := ⟨S4096x1x1, .i32⟩) main_call4_v6) (TRef.of (T := ⟨S4096x1x1, .i1⟩) main_call4_v7) (cmpi .sge),
    TRef.unary (TRef.of (T := ⟨S1, .i32⟩) main_call4_c_1) (TRef.of (T := ⟨S1x1x1, .i32⟩) main_call4_v8) (broadcastInDim S1x1x1 ![2] bcast_S1_S1x1x1_2),
    TRef.unary (TRef.of (T := ⟨S1x1x1, .i32⟩) main_call4_v8) (TRef.of (T := ⟨S4096x1x1, .i32⟩) main_call4_v9) (broadcastInDim S4096x1x1 ![0, 1, 2] bcast_S1x1x1_S4096x1x1_0_1_2),
    TRef.binary (TRef.of (T := ⟨S4096x1x1, .i32⟩) main_call4_v5) (TRef.of (T := ⟨S4096x1x1, .i32⟩) main_call4_v9) (TRef.of (T := ⟨S4096x1x1, .i1⟩) main_call4_v10) (cmpi .sle),
    TRef.binary (TRef.of (T := ⟨S4096x1x1, .i1⟩) main_call4_v7) (TRef.of (T := ⟨S4096x1x1, .i1⟩) main_call4_v10) (TRef.of (T := ⟨S4096x1x1, .i1⟩) main_call4_v11) andi,
    TRef.nullary (TRef.of (T := ⟨S_, .i1⟩) main_call4_c_3) (constantI S_ 1 1#1),
    TRef.binary (TRef.of (T := ⟨S4096x1x1, .i1⟩) main_call4_v11) (TRef.of (T := ⟨S_, .i1⟩) main_call4_c_3) (TRef.of (T := ⟨S4096x1, .i1⟩) main_call4_v12) (fun x v => Host.reduce IntOp.andi x v reducesTo_S4096x1x1_S4096x1_d2 h_S_),
    TRef.binary (TRef.of (T := ⟨S4096x4, .f32⟩) main_v33) (TRef.of (T := ⟨S4096x1x1, .i32⟩) main_call4_v5) (TRef.of (T := ⟨S4096x1, .f32⟩) main_call4_v13) (fun x i => Host.gather gather_S4096x4_S4096x1x1_S4096x1_n_1_0_0_1_2_11 x i),
    TRef.nullary (TRef.of (T := ⟨S_, .f32⟩) main_call4_cst) (constant S_ .f32 0x7FC00000#32),
    TRef.unary (TRef.of (T := ⟨S_, .f32⟩) main_call4_cst) (TRef.of (T := ⟨S4096x1, .f32⟩) main_call4_v14) (broadcastInDim S4096x1 ![] bcast_S_S4096x1),
    TRef.ternary (TRef.of (T := ⟨S4096x1, .i1⟩) main_call4_v12) (TRef.of (T := ⟨S4096x1, .f32⟩) main_call4_v13) (TRef.of (T := ⟨S4096x1, .f32⟩) main_call4_v14) (TRef.of (T := ⟨S4096x1, .f32⟩) main_v36) select,
    reshape main_v36 main_v37 (rfl : (.f32 : EltTy) = .f32) shapeCasts_S4096x1_S4096 ]

/-- The operations of the gate network up to the window boundary: `main_c … main_v51`. -/
def opsGate : List (HloOp τ sig (Elt F)) :=
  [ nullary main_c (constantI S_ 32 0#32),
    unary main_c main_v38 (broadcastInDim S4096 ![] bcast_S_S4096 : In F S_ → In F S4096),
    binary main_v34 main_v38 main_v39 (cmpi .slt : In F S4096 → In F S4096 → Mk F S4096),
    nullary main_c_4 (constantI S_ 32 4#32),
    unary main_c_4 main_v40 (broadcastInDim S4096 ![] bcast_S_S4096 : In F S_ → In F S4096),
    binary main_v34 main_v40 main_v41 (addi : In F S4096 → In F S4096 → In F S4096),
    ternary main_v39 main_v41 main_v34 main_v42 (select : Mk F S4096 → In F S4096 → In F S4096 → In F S4096),
    unary main_v42 main_v43 (broadcastInDim S4096x1 ![0] bcast_S4096_S4096x1_0 : In F S4096 → In F S4096x1),
    binary main_arg16 main_v43 main_v44 ((fun x i => Host.gather gather_S4x1024_S4096x1_S4096x1024_1_0_n_n_0_1_11024 x i) : Fl F S4x1024 → In F S4096x1 → Fl F S4096x1024),
    binary main_arg0 main_v44 main_v45 (fun a b => concatenate S4096x2048 1 [⟨S4096x1024, a⟩, ⟨S4096x1024, b⟩] concatenates_S4096x1024_S4096x1024_S4096x2048_d1),
    binary main_v45 main_arg6 main_v46 ((fun l r => Host.dotGeneral dot_S4096x2048_S2048x1024_S4096x1024_1_0_0_1_n_n none l r) : Fl F S4096x2048 → Fl F S2048x1024 → Fl F S4096x1024),
    unary main_arg7 main_v47 (broadcastInDim S1x1024 ![1] bcast_S1024_S1x1024_1 : Fl F S1024 → Fl F S1x1024),
    unary main_v47 main_v48 (broadcastInDim S4096x1024 ![0, 1] bcast_S1x1024_S4096x1024_0_1 : Fl F S1x1024 → Fl F S4096x1024),
    binary main_v46 main_v48 main_v49 (addf : Fl F S4096x1024 → Fl F S4096x1024 → Fl F S4096x1024),
    nullary main_cst_5 (constant S_ .f32 0x3F000000#32),
    unary main_cst_5 main_v50 (broadcastInDim S4096x1024 ![] bcast_S_S4096x1024 : Fl F S_ → Fl F S4096x1024),
    binary main_v50 main_v49 main_v51 (mulf : Fl F S4096x1024 → Fl F S4096x1024 → Fl F S4096x1024) ]

/-- The operations of the gate network from the window boundary, and the gated row: `main_v52 … main_v88`. -/
def opsGate2 : List (HloOp τ sig (Elt F)) :=
  [ unary main_v49 main_v52 (Host.negf : Fl F S4096x1024 → Fl F S4096x1024),
    nullary main_cst_6 (constant S_ .f32 0x3F3504F3#32),
    unary main_cst_6 main_v53 (broadcastInDim S4096x1024 ![] bcast_S_S4096x1024 : Fl F S_ → Fl F S4096x1024),
    binary main_v52 main_v53 main_v54 (mulf : Fl F S4096x1024 → Fl F S4096x1024 → Fl F S4096x1024),
    unary main_v54 main_v55 (Host.erfc : Fl F S4096x1024 → Fl F S4096x1024),
    binary main_v51 main_v55 main_v56 (mulf : Fl F S4096x1024 → Fl F S4096x1024 → Fl F S4096x1024),
    binary main_v56 main_arg8 main_v57 ((fun l r => Host.dotGeneral dot_S4096x1024_S1024x1_S4096x1_1_0_0_1_n_n none l r) : Fl F S4096x1024 → Fl F S1024x1 → Fl F S4096x1),
    unary main_arg9 main_v58 (broadcastInDim S1x1 ![1] bcast_S1_S1x1_1 : Fl F S1 → Fl F S1x1),
    unary main_v58 main_v59 (broadcastInDim S4096x1 ![0, 1] bcast_S1x1_S4096x1_0_1 : Fl F S1x1 → Fl F S4096x1),
    binary main_v57 main_v59 main_v60 (addf : Fl F S4096x1 → Fl F S4096x1 → Fl F S4096x1),
    unary main_v60 main_v61 (Host.negf : Fl F S4096x1 → Fl F S4096x1),
    unary main_v61 main_v62 (Host.exp : Fl F S4096x1 → Fl F S4096x1),
    nullary main_cst_7 (constant S_ .f32 0x3F800000#32),
    unary main_cst_7 main_v63 (broadcastInDim S4096x1 ![] bcast_S_S4096x1 : Fl F S_ → Fl F S4096x1),
    binary main_v63 main_v62 main_v64 (addf : Fl F S4096x1 → Fl F S4096x1 → Fl F S4096x1),
    nullary main_cst_8 (constant S_ .f32 0x3F800000#32),
    unary main_cst_8 main_v65 (broadcastInDim S4096x1 ![] bcast_S_S4096x1 : Fl F S_ → Fl F S4096x1),
    binary main_v65 main_v64 main_v66 (Host.divf : Fl F S4096x1 → Fl F S4096x1 → Fl F S4096x1),
    unary main_v66 main_v67 (broadcastInDim S4096x1024 ![0, 1] bcast_S4096x1_S4096x1024_0_1 : Fl F S4096x1 → Fl F S4096x1024),
    binary main_v67 main_arg0 main_v68 (mulf : Fl F S4096x1024 → Fl F S4096x1024 → Fl F S4096x1024),
    nullary main_cst_9 (constant S_ .f32 0x3F800000#32),
    unary main_cst_9 main_v69 (broadcastInDim S4096x1 ![] bcast_S_S4096x1 : Fl F S_ → Fl F S4096x1),
    binary main_v69 main_v66 main_v70 (subf : Fl F S4096x1 → Fl F S4096x1 → Fl F S4096x1),
    nullary main_c_10 (constantI S_ 32 0#32),
    unary main_c_10 main_v71 (broadcastInDim S4096 ![] bcast_S_S4096 : In F S_ → In F S4096),
    binary main_v34 main_v71 main_v72 (cmpi .slt : In F S4096 → In F S4096 → Mk F S4096),
    nullary main_c_11 (constantI S_ 32 4#32),
    unary main_c_11 main_v73 (broadcastInDim S4096 ![] bcast_S_S4096 : In F S_ → In F S4096),
    binary main_v34 main_v73 main_v74 (addi : In F S4096 → In F S4096 → In F S4096),
    ternary main_v72 main_v74 main_v34 main_v75 (select : Mk F S4096 → In F S4096 → In F S4096 → In F S4096),
    unary main_v75 main_v76 (broadcastInDim S4096x1 ![0] bcast_S4096_S4096x1_0 : In F S4096 → In F S4096x1),
    binary main_arg16 main_v76 main_v77 ((fun x i => Host.gather gather_S4x1024_S4096x1_S4096x1024_1_0_n_n_0_1_11024 x i) : Fl F S4x1024 → In F S4096x1 → Fl F S4096x1024),
    unary main_v70 main_v78 (broadcastInDim S4096x1024 ![0, 1] bcast_S4096x1_S4096x1024_0_1 : Fl F S4096x1 → Fl F S4096x1024),
    binary main_v78 main_v77 main_v79 (mulf : Fl F S4096x1024 → Fl F S4096x1024 → Fl F S4096x1024),
    binary main_v68 main_v79 main_v80 (addf : Fl F S4096x1024 → Fl F S4096x1024 → Fl F S4096x1024),
    nullary main_c_12 (constantI S_ 32 0#32),
    unary main_c_12 main_v81 (broadcastInDim S4096 ![] bcast_S_S4096 : In F S_ → In F S4096),
    binary main_v34 main_v81 main_v82 (cmpi .slt : In F S4096 → In F S4096 → Mk F S4096),
    nullary main_c_13 (constantI S_ 32 4#32),
    unary main_c_13 main_v83 (broadcastInDim S4096 ![] bcast_S_S4096 : In F S_ → In F S4096),
    binary main_v34 main_v83 main_v84 (addi : In F S4096 → In F S4096 → In F S4096),
    ternary main_v82 main_v84 main_v34 main_v85 (select : Mk F S4096 → In F S4096 → In F S4096 → In F S4096),
    unary main_v85 main_v86 (broadcastInDim S4096x1 ![0] bcast_S4096_S4096x1_0 : In F S4096 → In F S4096x1),
    binary main_arg17 main_v86 main_v87 ((fun x i => Host.gather gather_S4_S4096x1_S4096_n_0_n_n_0_1_1 x i) : Fl F S4 → In F S4096x1 → Fl F S4096),
    binary main_v15 main_v87 main_v88 (maximumf : Fl F S4096 → Fl F S4096 → Fl F S4096) ]

/-- The operations of whether the similar slot is taken, the slot written and the row written: `main_cst_14 … main_v100`. -/
def opsUse : List (HloOp τ sig (Elt F)) :=
  [ nullary main_cst_14 (constant S_ .f32 0x3F4CCCCD#32),
    unary main_cst_14 main_v89 (broadcastInDim S4096 ![] bcast_S_S4096 : Fl F S_ → Fl F S4096),
    binary main_v37 main_v89 main_v90 (cmpf .ogt : Fl F S4096 → Fl F S4096 → Mk F S4096),
    TRef.unary (TRef.of (T := ⟨S_, .i32⟩) main_v16) (TRef.of (T := ⟨S4096, .i32⟩) main_call5_v0) (broadcastInDim S4096 ![] bcast_S_S4096),
    TRef.ternary (TRef.of (T := ⟨S4096, .i1⟩) main_v90) (TRef.of (T := ⟨S4096, .i32⟩) main_v34) (TRef.of (T := ⟨S4096, .i32⟩) main_call5_v0) (TRef.of (T := ⟨S4096, .i32⟩) main_v91) select,
    unary main_v90 main_v92 (broadcastInDim S4096x1 ![0] bcast_S4096_S4096x1_0 : Mk F S4096 → Mk F S4096x1),
    TRef.unary (TRef.of (T := ⟨S4096x1, .i1⟩) main_v92) (TRef.of (T := ⟨S4096x1024, .i1⟩) main_call6_v0) (broadcastInDim S4096x1024 ![0, 1] bcast_S4096x1_S4096x1024_0_1),
    TRef.ternary (TRef.of (T := ⟨S4096x1024, .i1⟩) main_call6_v0) (TRef.of (T := ⟨S4096x1024, .f32⟩) main_v80) (TRef.of (T := ⟨S4096x1024, .f32⟩) main_arg0) (TRef.of (T := ⟨S4096x1024, .f32⟩) main_v93) select,
    TRef.ternary (TRef.of (T := ⟨S4096, .i1⟩) main_v90) (TRef.of (T := ⟨S4096, .f32⟩) main_v88) (TRef.of (T := ⟨S4096, .f32⟩) main_v15) (TRef.of (T := ⟨S4096, .f32⟩) main_v94) select,
    unary main_v19 main_v95 (broadcastInDim S4096x1 ![0] bcast_S4096_S4096x1_0 : Mk F S4096 → Mk F S4096x1),
    nullary main_c_15 (constantI S_ 32 0#32),
    unary main_c_15 main_v96 (broadcastInDim S4096 ![] bcast_S_S4096 : In F S_ → In F S4096),
    binary main_v91 main_v96 main_v97 (cmpi .slt : In F S4096 → In F S4096 → Mk F S4096),
    nullary main_c_16 (constantI S_ 32 4#32),
    unary main_c_16 main_v98 (broadcastInDim S4096 ![] bcast_S_S4096 : In F S_ → In F S4096),
    binary main_v91 main_v98 main_v99 (addi : In F S4096 → In F S4096 → In F S4096),
    ternary main_v97 main_v99 main_v91 main_v100 (select : Mk F S4096 → In F S4096 → In F S4096 → In F S4096) ]

/-- The operations of the row and the score written, or the old ones where the row does not beat the lowest score: `main_v101 … main_v111`. -/
def opsVal : List (HloOp τ sig (Elt F)) :=
  [ unary main_v100 main_v101 (broadcastInDim S4096x1 ![0] bcast_S4096_S4096x1_0 : In F S4096 → In F S4096x1),
    binary main_arg16 main_v101 main_v102 ((fun x i => Host.gather gather_S4x1024_S4096x1_S4096x1024_1_0_n_n_0_1_11024 x i) : Fl F S4x1024 → In F S4096x1 → Fl F S4096x1024),
    TRef.unary (TRef.of (T := ⟨S4096x1, .i1⟩) main_v95) (TRef.of (T := ⟨S4096x1024, .i1⟩) main_call8_v0) (broadcastInDim S4096x1024 ![0, 1] bcast_S4096x1_S4096x1024_0_1),
    TRef.ternary (TRef.of (T := ⟨S4096x1024, .i1⟩) main_call8_v0) (TRef.of (T := ⟨S4096x1024, .f32⟩) main_v93) (TRef.of (T := ⟨S4096x1024, .f32⟩) main_v102) (TRef.of (T := ⟨S4096x1024, .f32⟩) main_v103) select,
    nullary main_c_17 (constantI S_ 32 0#32),
    unary main_c_17 main_v104 (broadcastInDim S4096 ![] bcast_S_S4096 : In F S_ → In F S4096),
    binary main_v91 main_v104 main_v105 (cmpi .slt : In F S4096 → In F S4096 → Mk F S4096),
    nullary main_c_18 (constantI S_ 32 4#32),
    unary main_c_18 main_v106 (broadcastInDim S4096 ![] bcast_S_S4096 : In F S_ → In F S4096),
    binary main_v91 main_v106 main_v107 (addi : In F S4096 → In F S4096 → In F S4096),
    ternary main_v105 main_v107 main_v91 main_v108 (select : Mk F S4096 → In F S4096 → In F S4096 → In F S4096),
    unary main_v108 main_v109 (broadcastInDim S4096x1 ![0] bcast_S4096_S4096x1_0 : In F S4096 → In F S4096x1),
    binary main_arg17 main_v109 main_v110 ((fun x i => Host.gather gather_S4_S4096x1_S4096_n_0_n_n_0_1_1 x i) : Fl F S4 → In F S4096x1 → Fl F S4096),
    TRef.ternary (TRef.of (T := ⟨S4096, .i1⟩) main_v19) (TRef.of (T := ⟨S4096, .f32⟩) main_v94) (TRef.of (T := ⟨S4096, .f32⟩) main_v110) (TRef.of (T := ⟨S4096, .f32⟩) main_v111) select ]

/-- The operations of the two updated arrays, the written slot replaced: `main_v112 … main_v124`. -/
def opsSlot : List (HloOp τ sig (Elt F)) :=
  [ nullary main_v112 (iotaInDim S4 32 0),
    unary main_v112 main_v113 (broadcastInDim S1x4 ![1] bcast_S4_S1x4_1 : In F S4 → In F S1x4),
    unary main_v91 main_v114 (broadcastInDim S4096x1 ![0] bcast_S4096_S4096x1_0 : In F S4096 → In F S4096x1),
    unary main_v113 main_v115 (broadcastInDim S4096x4 ![0, 1] bcast_S1x4_S4096x4_0_1 : In F S1x4 → In F S4096x4),
    unary main_v114 main_v116 (broadcastInDim S4096x4 ![0, 1] bcast_S4096x1_S4096x4_0_1 : In F S4096x1 → In F S4096x4),
    binary main_v115 main_v116 main_v117 (cmpi .eq : In F S4096x4 → In F S4096x4 → Mk F S4096x4),
    unary main_v117 main_v118 (broadcastInDim S4096x4x1 ![0, 1] bcast_S4096x4_S4096x4x1_0_1 : Mk F S4096x4 → Mk F S4096x4x1),
    unary main_v103 main_v119 (broadcastInDim S4096x1x1024 ![0, 2] bcast_S4096x1024_S4096x1x1024_0_2 : Fl F S4096x1024 → Fl F S4096x1x1024),
    unary main_arg16 main_v120 (broadcastInDim S1x4x1024 ![1, 2] bcast_S4x1024_S1x4x1024_1_2 : Fl F S4x1024 → Fl F S1x4x1024),
    TRef.unary (TRef.of (T := ⟨S4096x4x1, .i1⟩) main_v118) (TRef.of (T := ⟨S4096x4x1024, .i1⟩) main_call10_v0) (broadcastInDim S4096x4x1024 ![0, 1, 2] bcast_S4096x4x1_S4096x4x1024_0_1_2),
    TRef.unary (TRef.of (T := ⟨S4096x1x1024, .f32⟩) main_v119) (TRef.of (T := ⟨S4096x4x1024, .f32⟩) main_call10_v1) (broadcastInDim S4096x4x1024 ![0, 1, 2] bcast_S4096x1x1024_S4096x4x1024_0_1_2),
    TRef.unary (TRef.of (T := ⟨S1x4x1024, .f32⟩) main_v120) (TRef.of (T := ⟨S4096x4x1024, .f32⟩) main_call10_v2) (broadcastInDim S4096x4x1024 ![0, 1, 2] bcast_S1x4x1024_S4096x4x1024_0_1_2),
    TRef.ternary (TRef.of (T := ⟨S4096x4x1024, .i1⟩) main_call10_v0) (TRef.of (T := ⟨S4096x4x1024, .f32⟩) main_call10_v1) (TRef.of (T := ⟨S4096x4x1024, .f32⟩) main_call10_v2) (TRef.of (T := ⟨S4096x4x1024, .f32⟩) main_v121) select,
    unary main_v111 main_v122 (broadcastInDim S4096x1 ![0] bcast_S4096_S4096x1_0 : Fl F S4096 → Fl F S4096x1),
    unary main_arg17 main_v123 (broadcastInDim S1x4 ![1] bcast_S4_S1x4_1 : Fl F S4 → Fl F S1x4),
    TRef.unary (TRef.of (T := ⟨S4096x1, .f32⟩) main_v122) (TRef.of (T := ⟨S4096x4, .f32⟩) main_call11_v0) (broadcastInDim S4096x4 ![0, 1] bcast_S4096x1_S4096x4_0_1),
    TRef.unary (TRef.of (T := ⟨S1x4, .f32⟩) main_v123) (TRef.of (T := ⟨S4096x4, .f32⟩) main_call11_v1) (broadcastInDim S4096x4 ![0, 1] bcast_S1x4_S4096x4_0_1),
    TRef.ternary (TRef.of (T := ⟨S4096x4, .i1⟩) main_v117) (TRef.of (T := ⟨S4096x4, .f32⟩) main_call11_v0) (TRef.of (T := ⟨S4096x4, .f32⟩) main_call11_v1) (TRef.of (T := ⟨S4096x4, .f32⟩) main_v124) select ]

/-- The operations of the combiner network on the updated rows laid flat: `main_v125 … main_v140`. -/
def opsComb : List (HloOp τ sig (Elt F)) :=
  [ reshape main_v121 main_v125 (rfl : (.f32 : EltTy) = .f32) shapeCasts_S4096x4x1024_S4096x4096,
    binary main_v125 main_arg10 main_v126 ((fun l r => Host.dotGeneral dot_S4096x4096_S4096x2048_S4096x2048_1_0_0_1_n_n none l r) : Fl F S4096x4096 → Fl F S4096x2048 → Fl F S4096x2048),
    unary main_arg11 main_v127 (broadcastInDim S1x2048 ![1] bcast_S2048_S1x2048_1 : Fl F S2048 → Fl F S1x2048),
    unary main_v127 main_v128 (broadcastInDim S4096x2048 ![0, 1] bcast_S1x2048_S4096x2048_0_1 : Fl F S1x2048 → Fl F S4096x2048),
    binary main_v126 main_v128 main_v129 (addf : Fl F S4096x2048 → Fl F S4096x2048 → Fl F S4096x2048),
    nullary main_cst_19 (constant S_ .f32 0x3F000000#32),
    unary main_cst_19 main_v130 (broadcastInDim S4096x2048 ![] bcast_S_S4096x2048 : Fl F S_ → Fl F S4096x2048),
    binary main_v130 main_v129 main_v131 (mulf : Fl F S4096x2048 → Fl F S4096x2048 → Fl F S4096x2048),
    unary main_v129 main_v132 (Host.negf : Fl F S4096x2048 → Fl F S4096x2048),
    nullary main_cst_20 (constant S_ .f32 0x3F3504F3#32),
    unary main_cst_20 main_v133 (broadcastInDim S4096x2048 ![] bcast_S_S4096x2048 : Fl F S_ → Fl F S4096x2048),
    binary main_v132 main_v133 main_v134 (mulf : Fl F S4096x2048 → Fl F S4096x2048 → Fl F S4096x2048),
    unary main_v134 main_v135 (Host.erfc : Fl F S4096x2048 → Fl F S4096x2048),
    binary main_v131 main_v135 main_v136 (mulf : Fl F S4096x2048 → Fl F S4096x2048 → Fl F S4096x2048),
    binary main_v136 main_arg12 main_v137 ((fun l r => Host.dotGeneral dot_S4096x2048_S2048x1024_S4096x1024_1_0_0_1_n_n none l r) : Fl F S4096x2048 → Fl F S2048x1024 → Fl F S4096x1024),
    unary main_arg13 main_v138 (broadcastInDim S1x1024 ![1] bcast_S1024_S1x1024_1 : Fl F S1024 → Fl F S1x1024),
    unary main_v138 main_v139 (broadcastInDim S4096x1024 ![0, 1] bcast_S1x1024_S4096x1024_0_1 : Fl F S1x1024 → Fl F S4096x1024),
    binary main_v137 main_v139 main_v140 (addf : Fl F S4096x1024 → Fl F S4096x1024 → Fl F S4096x1024) ]

/-- The operations of mean and variance of each combined row: `main_cst_21 … main_v152`. -/
def opsNorm : List (HloOp τ sig (Elt F)) :=
  [ nullary main_cst_21 (constant S_ .f32 0x00000000#32),
    binary main_v140 main_cst_21 main_v141 ((fun x v => Host.reduceAdd x v reducesTo_S4096x1024_S4096_d1 h_S_) : Fl F S4096x1024 → Fl F S_ → Fl F S4096),
    unary main_v141 main_v142 (broadcastInDim S4096x1 ![0] bcast_S4096_S4096x1_0 : Fl F S4096 → Fl F S4096x1),
    nullary main_cst_22 (constant S_ .f32 0x44800000#32),
    unary main_cst_22 main_v143 (broadcastInDim S4096x1 ![] bcast_S_S4096x1 : Fl F S_ → Fl F S4096x1),
    binary main_v142 main_v143 main_v144 (Host.divf : Fl F S4096x1 → Fl F S4096x1 → Fl F S4096x1),
    unary main_v144 main_v145 (broadcastInDim S4096x1024 ![0, 1] bcast_S4096x1_S4096x1024_0_1 : Fl F S4096x1 → Fl F S4096x1024),
    binary main_v140 main_v145 main_v146 (subf : Fl F S4096x1024 → Fl F S4096x1024 → Fl F S4096x1024),
    binary main_v146 main_v146 main_v147 (mulf : Fl F S4096x1024 → Fl F S4096x1024 → Fl F S4096x1024),
    nullary main_cst_23 (constant S_ .f32 0x00000000#32),
    binary main_v147 main_cst_23 main_v148 ((fun x v => Host.reduceAdd x v reducesTo_S4096x1024_S4096_d1 h_S_) : Fl F S4096x1024 → Fl F S_ → Fl F S4096),
    unary main_v148 main_v149 (broadcastInDim S4096x1 ![0] bcast_S4096_S4096x1_0 : Fl F S4096 → Fl F S4096x1),
    nullary main_cst_24 (constant S_ .f32 0x44800000#32),
    unary main_cst_24 main_v150 (broadcastInDim S4096x1 ![] bcast_S_S4096x1 : Fl F S_ → Fl F S4096x1),
    binary main_v149 main_v150 main_v151 (Host.divf : Fl F S4096x1 → Fl F S4096x1 → Fl F S4096x1),
    unary main_v144 main_v152 (broadcastInDim S4096x1024 ![0, 1] bcast_S4096x1_S4096x1024_0_1 : Fl F S4096x1 → Fl F S4096x1024) ]

/-- The operations of the normalised row, scaled and shifted: `main_v153 … main_v164`. -/
def opsOut : List (HloOp τ sig (Elt F)) :=
  [ binary main_v140 main_v152 main_v153 (subf : Fl F S4096x1024 → Fl F S4096x1024 → Fl F S4096x1024),
    nullary main_cst_25 (constant S_ .f32 0x3727C5AC#32),
    unary main_cst_25 main_v154 (broadcastInDim S4096x1 ![] bcast_S_S4096x1 : Fl F S_ → Fl F S4096x1),
    binary main_v151 main_v154 main_v155 (addf : Fl F S4096x1 → Fl F S4096x1 → Fl F S4096x1),
    unary main_v155 main_v156 (Host.sqrt : Fl F S4096x1 → Fl F S4096x1),
    unary main_v156 main_v157 (broadcastInDim S4096x1024 ![0, 1] bcast_S4096x1_S4096x1024_0_1 : Fl F S4096x1 → Fl F S4096x1024),
    binary main_v153 main_v157 main_v158 (Host.divf : Fl F S4096x1024 → Fl F S4096x1024 → Fl F S4096x1024),
    unary main_arg14 main_v159 (broadcastInDim S1x1024 ![1] bcast_S1024_S1x1024_1 : Fl F S1024 → Fl F S1x1024),
    unary main_v159 main_v160 (broadcastInDim S4096x1024 ![0, 1] bcast_S1x1024_S4096x1024_0_1 : Fl F S1x1024 → Fl F S4096x1024),
    binary main_v158 main_v160 main_v161 (mulf : Fl F S4096x1024 → Fl F S4096x1024 → Fl F S4096x1024),
    unary main_arg15 main_v162 (broadcastInDim S1x1024 ![1] bcast_S1024_S1x1024_1 : Fl F S1024 → Fl F S1x1024),
    unary main_v162 main_v163 (broadcastInDim S4096x1024 ![0, 1] bcast_S1x1024_S4096x1024_0_1 : Fl F S1x1024 → Fl F S4096x1024),
    binary main_v161 main_v163 main_v164 (addf : Fl F S4096x1024 → Fl F S4096x1024 → Fl F S4096x1024) ]

/-- Window 0 of @main. -/
def part0 : List (HloOp τ sig (Elt F)) := opsScore ++ (opsMin ++ (opsSims ++ (opsPick ++ opsGate)))
/-- Window 1 of @main. -/
def part1 : List (HloOp τ sig (Elt F)) := opsGate2 ++ opsUse
/-- Window 2 of @main. -/
def part2 : List (HloOp τ sig (Elt F)) := opsVal ++ (opsSlot ++ (opsComb ++ opsNorm))
/-- Window 3 of @main. -/
def part3 : List (HloOp τ sig (Elt F)) := opsOut
/-- All of @main. -/
def ops : List (HloOp τ sig (Elt F)) := part0 ++ (part1 ++ (part2 ++ part3))

set_option maxHeartbeats 4000000 in
/-- Window 0 of @main is its list of operations. -/
theorem part0_eq (c : Dev nD) : main_part0 (F := F) c = seq part0 := rfl
set_option maxHeartbeats 4000000 in
/-- Window 1 of @main is its list of operations. -/
theorem part1_eq (c : Dev nD) : main_part1 (F := F) c = seq part1 := rfl
set_option maxHeartbeats 4000000 in
/-- Window 2 of @main is its list of operations. -/
theorem part2_eq (c : Dev nD) : main_part2 (F := F) c = seq part2 := rfl
set_option maxHeartbeats 4000000 in
/-- Window 3 of @main is its list of operations. -/
theorem part3_eq (c : Dev nD) : main_part3 (F := F) c = seq part3 := rfl

/-- @main is its list of operations, run in order. -/
theorem main_eq (c : Dev nD) : main (F := F) c = seq ops := by
  simp only [ops, seq_append, ← part0_eq c, ← part1_eq c, ← part2_eq c, ← part3_eq c]
  rfl

/-- The program scopes no buffer. -/
theorem scopedRefs_eq : (Finset.univ.filter fun b : Ref sig .tc => b.isScoped) = ∅ := by decide
/-- The program scopes no semaphore. -/
theorem scopedSems_eq : (Finset.univ.filter fun sm : SemLoc sig => sm.isScoped .tc) = ∅ := by decide

/-- The buffers that `opsScore` writes. -/
abbrev WScore : List (Ref sig .tc) :=
  [main_v0, main_v1, main_v2, main_v3, main_cst, main_v4, main_v5, main_v6, main_cst_0, main_v7, main_v8, main_v9, main_v10, main_v11, main_v12, main_v13, main_v14, main_v15]
/-- Every other buffer passes `opsScore` unchanged. -/
theorem keepScore (V : Valuation τ sig (Elt F)) (r : Ref sig .tc) (h : r ∉ WScore) :
    after opsScore V (no_index (Proc.devRef .tc r)) = V (Proc.devRef .tc r) :=
  after_of_writes_sub opsScore V (forall_writes_sub_of_map (by rfl)) h
/-- The buffers that `opsMin` writes. -/
abbrev WMin : List (Ref sig .tc) :=
  [main_call0_v0, main_call0_cst, main_call0_c, main_call0_v1_0, main_v16, main_cst_1, main_v17, main_v18, main_v19]
/-- Every other buffer passes `opsMin` unchanged. -/
theorem keepMin (V : Valuation τ sig (Elt F)) (r : Ref sig .tc) (h : r ∉ WMin) :
    after opsMin V (no_index (Proc.devRef .tc r)) = V (Proc.devRef .tc r) :=
  after_of_writes_sub opsMin V (forall_writes_sub_of_map (by rfl)) h
/-- The buffers that `opsSims` writes. -/
abbrev WSims : List (Ref sig .tc) :=
  [main_call1_v0, main_call1_cst, main_call1_v1, main_v20, main_cst_2, main_v21, main_v22, main_call2_v0, main_call2_cst, main_call2_v1, main_v23, main_cst_3, main_v24, main_v25, main_v26, main_v27, main_v28, main_v29, main_v30, main_v31, main_v32, main_v33]
/-- Every other buffer passes `opsSims` unchanged. -/
theorem keepSims (V : Valuation τ sig (Elt F)) (r : Ref sig .tc) (h : r ∉ WSims) :
    after opsSims V (no_index (Proc.devRef .tc r)) = V (Proc.devRef .tc r) :=
  after_of_writes_sub opsSims V (forall_writes_sub_of_map (by rfl)) h
/-- The buffers that `opsPick` writes. -/
abbrev WPick : List (Ref sig .tc) :=
  [main_call3_v0, main_call3_cst, main_call3_c, main_call3_v1_0, main_v34, main_v35, main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_cst, main_call4_v14, main_v36, main_v37]
/-- Every other buffer passes `opsPick` unchanged. -/
theorem keepPick (V : Valuation τ sig (Elt F)) (r : Ref sig .tc) (h : r ∉ WPick) :
    after opsPick V (no_index (Proc.devRef .tc r)) = V (Proc.devRef .tc r) :=
  after_of_writes_sub opsPick V (forall_writes_sub_of_map (by rfl)) h
/-- The buffers that `opsGate` writes. -/
abbrev WGate : List (Ref sig .tc) :=
  [main_c, main_v38, main_v39, main_c_4, main_v40, main_v41, main_v42, main_v43, main_v44, main_v45, main_v46, main_v47, main_v48, main_v49, main_cst_5, main_v50, main_v51]
/-- Every other buffer passes `opsGate` unchanged. -/
theorem keepGate (V : Valuation τ sig (Elt F)) (r : Ref sig .tc) (h : r ∉ WGate) :
    after opsGate V (no_index (Proc.devRef .tc r)) = V (Proc.devRef .tc r) :=
  after_of_writes_sub opsGate V (forall_writes_sub_of_map (by rfl)) h
/-- The buffers that `opsGate2` writes. -/
abbrev WGate2 : List (Ref sig .tc) :=
  [main_v52, main_cst_6, main_v53, main_v54, main_v55, main_v56, main_v57, main_v58, main_v59, main_v60, main_v61, main_v62, main_cst_7, main_v63, main_v64, main_cst_8, main_v65, main_v66, main_v67, main_v68, main_cst_9, main_v69, main_v70, main_c_10, main_v71, main_v72, main_c_11, main_v73, main_v74, main_v75, main_v76, main_v77, main_v78, main_v79, main_v80, main_c_12, main_v81, main_v82, main_c_13, main_v83, main_v84, main_v85, main_v86, main_v87, main_v88]
/-- Every other buffer passes `opsGate2` unchanged. -/
theorem keepGate2 (V : Valuation τ sig (Elt F)) (r : Ref sig .tc) (h : r ∉ WGate2) :
    after opsGate2 V (no_index (Proc.devRef .tc r)) = V (Proc.devRef .tc r) :=
  after_of_writes_sub opsGate2 V (forall_writes_sub_of_map (by rfl)) h
/-- The buffers that `opsUse` writes. -/
abbrev WUse : List (Ref sig .tc) :=
  [main_cst_14, main_v89, main_v90, main_call5_v0, main_v91, main_v92, main_call6_v0, main_v93, main_v94, main_v95, main_c_15, main_v96, main_v97, main_c_16, main_v98, main_v99, main_v100]
/-- Every other buffer passes `opsUse` unchanged. -/
theorem keepUse (V : Valuation τ sig (Elt F)) (r : Ref sig .tc) (h : r ∉ WUse) :
    after opsUse V (no_index (Proc.devRef .tc r)) = V (Proc.devRef .tc r) :=
  after_of_writes_sub opsUse V (forall_writes_sub_of_map (by rfl)) h
/-- The buffers that `opsVal` writes. -/
abbrev WVal : List (Ref sig .tc) :=
  [main_v101, main_v102, main_call8_v0, main_v103, main_c_17, main_v104, main_v105, main_c_18, main_v106, main_v107, main_v108, main_v109, main_v110, main_v111]
/-- Every other buffer passes `opsVal` unchanged. -/
theorem keepVal (V : Valuation τ sig (Elt F)) (r : Ref sig .tc) (h : r ∉ WVal) :
    after opsVal V (no_index (Proc.devRef .tc r)) = V (Proc.devRef .tc r) :=
  after_of_writes_sub opsVal V (forall_writes_sub_of_map (by rfl)) h
/-- The buffers that `opsSlot` writes. -/
abbrev WSlot : List (Ref sig .tc) :=
  [main_v112, main_v113, main_v114, main_v115, main_v116, main_v117, main_v118, main_v119, main_v120, main_call10_v0, main_call10_v1, main_call10_v2, main_v121, main_v122, main_v123, main_call11_v0, main_call11_v1, main_v124]
/-- Every other buffer passes `opsSlot` unchanged. -/
theorem keepSlot (V : Valuation τ sig (Elt F)) (r : Ref sig .tc) (h : r ∉ WSlot) :
    after opsSlot V (no_index (Proc.devRef .tc r)) = V (Proc.devRef .tc r) :=
  after_of_writes_sub opsSlot V (forall_writes_sub_of_map (by rfl)) h
/-- The buffers that `opsComb` writes. -/
abbrev WComb : List (Ref sig .tc) :=
  [main_v125, main_v126, main_v127, main_v128, main_v129, main_cst_19, main_v130, main_v131, main_v132, main_cst_20, main_v133, main_v134, main_v135, main_v136, main_v137, main_v138, main_v139, main_v140]
/-- Every other buffer passes `opsComb` unchanged. -/
theorem keepComb (V : Valuation τ sig (Elt F)) (r : Ref sig .tc) (h : r ∉ WComb) :
    after opsComb V (no_index (Proc.devRef .tc r)) = V (Proc.devRef .tc r) :=
  after_of_writes_sub opsComb V (forall_writes_sub_of_map (by rfl)) h
/-- The buffers that `opsNorm` writes. -/
abbrev WNorm : List (Ref sig .tc) :=
  [main_cst_21, main_v141, main_v142, main_cst_22, main_v143, main_v144, main_v145, main_v146, main_v147, main_cst_23, main_v148, main_v149, main_cst_24, main_v150, main_v151, main_v152]
/-- Every other buffer passes `opsNorm` unchanged. -/
theorem keepNorm (V : Valuation τ sig (Elt F)) (r : Ref sig .tc) (h : r ∉ WNorm) :
    after opsNorm V (no_index (Proc.devRef .tc r)) = V (Proc.devRef .tc r) :=
  after_of_writes_sub opsNorm V (forall_writes_sub_of_map (by rfl)) h
/-- The buffers that `opsOut` writes. -/
abbrev WOut : List (Ref sig .tc) :=
  [main_v153, main_cst_25, main_v154, main_v155, main_v156, main_v157, main_v158, main_v159, main_v160, main_v161, main_v162, main_v163, main_v164]
/-- Every other buffer passes `opsOut` unchanged. -/
theorem keepOut (V : Valuation τ sig (Elt F)) (r : Ref sig .tc) (h : r ∉ WOut) :
    after opsOut V (no_index (Proc.devRef .tc r)) = V (Proc.devRef .tc r) :=
  after_of_writes_sub opsOut V (forall_writes_sub_of_map (by rfl)) h

end Cert.ReferenceIdeal.Host

end
-- ==== Proof.RefRun.lean ====
/- The run of the reference's @main: it terminates, every buffer ends at what the list of operations leaves there, and the
   arguments end as launched. -/
module

public import proofs.«01_k».proof.Proof.RefOps

@[expose] public section

set_option maxRecDepth 16384

noncomputable section

namespace Cert.ReferenceIdeal.Host

open Cert.ReferenceIdeal Cert.ReferenceIdeal.Gen Idealize.ShloMosaic Idealize.ShloMosaic.TcCoe Idealize.SL.Sem Idealize.ShloMosaic.StableHlo

variable {F : FTy → Type} [FloatOps F]

/-- Every operation touches TensorCore buffers only. -/
theorem ops_sub : (ops : List (HloOp τ sig (Elt F))).Forall fun op => op.bufs ⊆ tcRefs τ sig := by
  refine List.forall_iff_forall_mem.mpr fun op h => ?_
  simp only [ops, part0, part1, part2, part3, opsScore, opsMin, opsSims, opsPick, opsGate, opsGate2, opsUse, opsVal, opsSlot,
    opsComb, opsNorm, opsOut, TRef.nullary, TRef.unary, TRef.binary, TRef.ternary, TRef.quaternary, TRef.reshape,
    List.cons_append, List.nil_append] at h
  revert op
  rw [← List.forall_iff_forall_mem]
  simp only [List.Forall, nullary_bufs_sub, unary_bufs_sub, binary_bufs_sub, ternary_bufs_sub, quaternary_bufs_sub,
    reshape_bufs_sub, and_self]

/-- No operation leaves a buffer undetermined. -/
theorem ops_fresh : ∀ op ∈ (ops : List (HloOp τ sig (Elt F))), op.fresh = ∅ :=
  List.forall_iff_forall_mem.mp (forall_fresh_of_map (by rfl))

/-- What the whole program leaves, chunk after chunk. -/
theorem after_ops (V : Valuation τ sig (Elt F)) :
    after ops V = after opsOut (after opsNorm (after opsComb (after opsSlot (after opsVal (after opsUse (after opsGate2
      (after opsGate (after opsPick (after opsSims (after opsMin (after opsScore V))))))))))) := by
  simp only [ops, part0, part1, part2, part3, after_append]

/-- The program's arguments. -/
abbrev args : List (Ref sig .tc) :=
  [main_arg0, main_arg1, main_arg2, main_arg3, main_arg4, main_arg5, main_arg6, main_arg7, main_arg8, main_arg9, main_arg10,
    main_arg11, main_arg12, main_arg13, main_arg14, main_arg15, main_arg16, main_arg17]

/-- The program leaves each argument as it was. -/
theorem after_ops_arg (V : Valuation τ sig (Elt F)) (r : Ref sig .tc) (h : r ∈ args) :
    after ops V (Proc.devRef .tc r) = V (Proc.devRef .tc r) := by
  have hW : ∀ r ∈ args, r ∉ WScore ∧ r ∉ WMin ∧ r ∉ WSims ∧ r ∉ WPick ∧ r ∉ WGate ∧ r ∉ WGate2 ∧ r ∉ WUse ∧ r ∉ WVal
      ∧ r ∉ WSlot ∧ r ∉ WComb ∧ r ∉ WNorm ∧ r ∉ WOut := by decide
  obtain ⟨h1, h2, h3, h4, h5, h6, h7, h8, h9, h10, h11, h12⟩ := hW r h
  rw [after_ops, keepOut _ _ h12, keepNorm _ _ h11, keepComb _ _ h10, keepSlot _ _ h9, keepVal _ _ h8, keepUse _ _ h7,
    keepGate2 _ _ h6, keepGate _ _ h5, keepPick _ _ h4, keepSims _ _ h3, keepMin _ _ h2, keepScore _ _ h1]

/-- Every weakly fair execution of @main terminates with every buffer at what the operations leave there. -/
theorem run_all (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq (fun _ => ops_sub) m ρ fun _ => ops_fresh

/-- An argument ends as launched. -/
theorem arg_kept (m : (ℓ : Loc nD τ sig) → Buf (Elt F) ℓ) (c : Dev nD) (b : Ref sig .tc) (hb : b ∈ args)
    {x : Buf (Elt F) ((c.tc : Thread nD τ).loc b)} (h : x = after ops (launchContents m c) (Proc.devRef .tc b)) :
    x = m ((c.tc : Thread nD τ).loc b) :=
  h.trans (after_ops_arg _ b hb)

end Cert.ReferenceIdeal.Host

end
-- ==== Proof.RefValue.lean ====
/-
  The reference's three results at the ideal instance, when the stored rows and the stored scores are zero: each group of
  its operations read at an index, then the groups put together.
-/
module

public import proofs.«01_k».proof.Proof.Spec
public import proofs.«01_k».proof.Proof.RefRun
public import Idealize.ShloMosaic.Lib.Tactic.CleanTypes

@[expose] public section

set_option maxRecDepth 16384

noncomputable section

namespace Cert.ReferenceIdeal.Host

open Cert.ReferenceIdeal Cert.ReferenceIdeal.Gen Cert.Spec Idealize.ShloMosaic Idealize.ShloMosaic.TcCoe Idealize.SL.Sem Idealize.ShloMosaic.StableHlo

/-- The reference's form of `gelu`, by the complementary error function, is the kernel's. -/
theorem gelu_erfc (h : R) : lit 0x3F000000#32 * h * Ideal.erfc (-h * lit 0x3F3504F3#32) = gelu h := by
  unfold gelu
  rw [EReal.neg_mul, Ideal.erfc_neg]

variable (V : (b : DevRef τ sig) → b.ty.Contents (Elt Ideal))

set_option maxHeartbeats 2000000 in
/-- The reference's score of a row. -/
theorem score_v15 (r : Fin 4096) : (after opsScore V (Proc.devRef .tc main_v15) : Vec Ideal S4096 .f32) (ix1 r)
    = rowScore (V (Proc.devRef .tc main_arg0)) (V (Proc.devRef .tc main_arg2)) (V (Proc.devRef .tc main_arg3)) (V (Proc.devRef .tc main_arg4)) (V (Proc.devRef .tc main_arg5)) r := by
  simp only [opsScore, TRef.binary, TRef.nullary, TRef.quaternary, TRef.unary, TRef.ternary, TRef.reshape, TRef.toBuf, TRef.ofBuf, cast_eq]
  after_results_simp
  clean_types
  unfold rowScore score layer
  pointwise
  simp only [gelu_erfc]

/-- Zero or minus infinity is not above the threshold of similarity. -/
theorem not_above (x : R) (h : x ≤ 0) : ¬ (lit 0x3F4CCCCD#32 < x) := by
  have h0 : (0 : R) < lit 0x3F4CCCCD#32 := by
    simp [Ideal.ofBits, Ideal.ieee, -EReal.coe_mul]
  exact not_lt.mpr (le_trans h h0.le)

/-- No number of a column is positive. -/
def NonPos (x : FVec Ideal S4096 .f32) : Prop := ∀ i, x i ≤ (0 : R)

/-- The smallest of four zeros is zero. -/
theorem fold_min_zero : Finset.fold min (Ideal.ofBits .f32 0x7F800000#32) (fun _ : Fin 4 => (0 : R)) Finset.univ = (0 : R) := by
  have ht : Ideal.ofBits .f32 0x7F800000#32 = ⊤ := by simp [Ideal.ofBits, Ideal.ieee]
  refine le_antisymm (Finset.fold_min_le _ |>.mpr (Or.inr ⟨0, Finset.mem_univ _, le_rfl⟩)) ?_
  exact (Finset.le_fold_min _).mpr ⟨by rw [ht]; exact le_top, fun _ _ => le_rfl⟩

/-- Zero over a product of two numbers, each the larger of something and the printed bound, is zero. -/
theorem zero_div_bounds (a b : R) : Ideal.div (0 : R) (max a (lit 0x322BCC77#32) * max b (lit 0x322BCC77#32)) = 0 := by
  have h0 : (0 : R) < lit 0x322BCC77#32 := by
    simp [Ideal.ofBits, Ideal.ieee, -EReal.coe_mul]
  have hp : (0 : EReal) < max a (lit 0x322BCC77#32) * max b (lit 0x322BCC77#32) :=
    EReal.mul_pos (lt_max_of_lt_right h0) (lt_max_of_lt_right h0)
  unfold Ideal.div
  rw [if_neg hp.ne', zero_mul]

/-- A choice of two numbers that are not positive is not positive. -/
theorem select_nonpos (c : BitVec 1) (x y : R) (hx : x ≤ (0 : R)) (hy : y ≤ (0 : R)) : Scalar.select c x y ≤ (0 : R) := by
  unfold Scalar.select
  split <;> assumption

/-- The first of four zeros is smaller than the infinity the search starts from. -/
theorem argmin_start (p q : BitVec 32) : reducer_argmin_f32_i32 (F := Ideal) ((⊤ : EReal), p) ((0 : EReal), q) = ((0 : EReal), q) := by
  simp [reducer_argmin_f32_i32, Ideal.cmpf_def, Ideal.cmp, Scalar.select, IntOp.ori, IntOp.andi]

/-- Of two equal zeros the search keeps the lower slot. -/
theorem argmin_step (q : BitVec 32) (h : IntOp.cmpi .slt 0#32 q = 1#1) :
    reducer_argmin_f32_i32 (F := Ideal) ((0 : EReal), 0#32) ((0 : EReal), q) = ((0 : EReal), 0#32) := by
  simp [reducer_argmin_f32_i32, Ideal.cmpf_def, Ideal.cmp, Scalar.select, IntOp.ori, IntOp.andi, h]

/-- The argmin of four zeros is slot 0. -/
theorem min_v16 (h : V (Proc.devRef .tc main_arg17) = (fun _ => (0 : R) : FVec Ideal S4 .f32)) (j : S_.Idx) :
    (after opsMin V (Proc.devRef .tc main_v16) : Vec Ideal S_ .i32) j = 0#32 := by
  simp only [opsMin, TRef.binary, TRef.nullary, TRef.quaternary, TRef.unary, TRef.ternary, TRef.reshape, TRef.toBuf, TRef.ofBuf, cast_eq]
  after_results_simp
  clean_types
  rw [h]
  rw [Ideal.argReduce_eq_reduce2]
  unfold Host.reduce2
  rw [List.filter_eq_self.mpr (fun n _ => by simpa using Subsingleton.elim _ _)]
  have ht : (constant S_ .f32 0x7F800000#32 : FVec Ideal S_ .f32) (Shape.Idx.first h_S_) = (⊤ : EReal) := by
    show Ideal.ofBits .f32 0x7F800000#32 = ⊤
    simp [Ideal.ofBits, Ideal.ieee]
  rw [ht]
  have hl : List.finRange S4.numel = [(0 : Fin 4), 1, 2, 3] := by rfl
  rw [hl]
  show (reducer_argmin_f32_i32 (F := Ideal) (reducer_argmin_f32_i32 (reducer_argmin_f32_i32 (reducer_argmin_f32_i32
    ((⊤ : EReal), 0#32) ((0 : EReal), 0#32)) ((0 : EReal), 1#32)) ((0 : EReal), 2#32)) ((0 : EReal), 3#32)).2 = 0#32
  rw [argmin_start, argmin_step _ rfl, argmin_step _ rfl, argmin_step _ rfl]

/-- Against four zeros, a row is written when its score is positive. -/
theorem min_v19 (h : V (Proc.devRef .tc main_arg17) = (fun _ => (0 : R) : FVec Ideal S4 .f32)) (r : Fin 4096) :
    (after opsMin V (Proc.devRef .tc main_v19) : Vec Ideal S4096 .i1) (ix1 r)
      = Ideal.cmp .ogt ((V (Proc.devRef .tc main_v15) : FVec Ideal S4096 .f32) (ix1 r)) (0 : R) := by
  simp only [opsMin, TRef.binary, TRef.nullary, TRef.quaternary, TRef.unary, TRef.ternary, TRef.reshape, TRef.toBuf, TRef.ofBuf, cast_eq]
  after_results_simp
  clean_types
  rw [h]
  pointwise
  erw [fold_min_zero]

set_option maxHeartbeats 2000000 in
/-- The similarity to a zero row is zero. -/
theorem sims_v33 (h : V (Proc.devRef .tc main_arg16) = (fun _ => (0 : R) : FVec Ideal S4x1024 .f32)) :
    after opsSims V (Proc.devRef .tc main_v33) = (fun _ => (0 : R) : FVec Ideal S4096x4 .f32) := by
  funext i
  rw [eq_ix2 i]
  simp only [opsSims, TRef.binary, TRef.nullary, TRef.quaternary, TRef.unary, TRef.ternary, TRef.reshape, TRef.toBuf, TRef.ofBuf, cast_eq]
  after_results_simp
  clean_types
  rw [h]
  pointwise
  rw [Finset.sum_eq_zero (fun x _ => mul_zero _)]
  exact zero_div_bounds _ _

set_option maxHeartbeats 2000000 in
/-- Of similarities all zero, the one picked is not positive, whichever slot is picked. -/
theorem pick_v37 (h : V (Proc.devRef .tc main_v33) = (fun _ => (0 : R) : FVec Ideal S4096x4 .f32)) :
    NonPos (after opsPick V (Proc.devRef .tc main_v37)) := by
  intro i
  rw [eq_ix1 i]
  simp only [opsPick, TRef.binary, TRef.nullary, TRef.quaternary, TRef.unary, TRef.ternary, TRef.reshape, TRef.toBuf, TRef.ofBuf, cast_eq]
  after_results_simp
  clean_types
  rw [h]
  pointwise
  have hn : Ideal.ofBits .f32 0x7FC00000#32 = ⊥ := by simp [Ideal.ofBits, Ideal.ieee]
  exact select_nonpos _ _ _ le_rfl (by rw [hn]; exact bot_le)

/-- Where no similarity is positive, every row goes to the slot of the lowest score. -/
theorem use_v91 (h : NonPos (V (Proc.devRef .tc main_v37)))
    (h16 : ∀ j, (V (Proc.devRef .tc main_v16) : Vec Ideal S_ .i32) j = 0#32) :
    after opsUse V (Proc.devRef .tc main_v91) = (fun _ => 0#32 : Vec Ideal S4096 .i32) := by
  funext i
  rw [eq_ix1 i]
  simp only [opsUse, TRef.binary, TRef.nullary, TRef.quaternary, TRef.unary, TRef.ternary, TRef.reshape, TRef.toBuf, TRef.ofBuf, cast_eq]
  after_results_simp
  clean_types
  pointwise
  exact (if_neg (not_above _ (h _))).trans (h16 _)

/-- Where no similarity is positive, the row offered is the input's. -/
theorem use_v93 (h : NonPos (V (Proc.devRef .tc main_v37))) (r : Fin 4096) (l : Fin 1024) :
    (after opsUse V (Proc.devRef .tc main_v93) : FVec Ideal S4096x1024 .f32) (ix2 r l)
      = (V (Proc.devRef .tc main_arg0) : FVec Ideal S4096x1024 .f32) (ix2 r l) := by
  simp only [opsUse, TRef.binary, TRef.nullary, TRef.quaternary, TRef.unary, TRef.ternary, TRef.reshape, TRef.toBuf, TRef.ofBuf, cast_eq]
  after_results_simp
  clean_types
  pointwise
  exact if_neg (not_above _ (h _))

/-- Where no similarity is positive, the score offered is the row's. -/
theorem use_v94 (h : NonPos (V (Proc.devRef .tc main_v37))) (r : Fin 4096) :
    (after opsUse V (Proc.devRef .tc main_v94) : FVec Ideal S4096 .f32) (ix1 r)
      = (V (Proc.devRef .tc main_v15) : FVec Ideal S4096 .f32) (ix1 r) := by
  simp only [opsUse, TRef.binary, TRef.nullary, TRef.quaternary, TRef.unary, TRef.ternary, TRef.reshape, TRef.toBuf, TRef.ofBuf, cast_eq]
  after_results_simp
  clean_types
  pointwise
  exact if_neg (not_above _ (h _))

/-- The condition of writing, laid out as a column. -/
theorem use_v95 (r : Fin 4096) :
    (after opsUse V (Proc.devRef .tc main_v95) : Vec Ideal S4096x1 .i1) (ix2 r 0) = (V (Proc.devRef .tc main_v19) : Vec Ideal S4096 .i1) (ix1 r) := by
  simp only [opsUse, TRef.binary, TRef.nullary, TRef.quaternary, TRef.unary, TRef.ternary, TRef.reshape, TRef.toBuf, TRef.ofBuf, cast_eq]
  after_results_simp
  clean_types
  pointwise

/-- The row written: the one offered where the condition holds, else a zero row. -/
theorem val_v103 (h : V (Proc.devRef .tc main_arg16) = (fun _ => (0 : R) : FVec Ideal S4x1024 .f32)) (r : Fin 4096) (l : Fin 1024) :
    (after opsVal V (Proc.devRef .tc main_v103) : FVec Ideal S4096x1024 .f32) (ix2 r l)
      = Scalar.select ((V (Proc.devRef .tc main_v95) : Vec Ideal S4096x1 .i1) (ix2 r 0))
          ((V (Proc.devRef .tc main_v93) : FVec Ideal S4096x1024 .f32) (ix2 r l)) (0 : R) := by
  simp only [opsVal, TRef.binary, TRef.nullary, TRef.quaternary, TRef.unary, TRef.ternary, TRef.reshape, TRef.toBuf, TRef.ofBuf, cast_eq]
  after_results_simp
  clean_types
  rw [h]
  pointwise
  rfl

/-- The score written: the one offered where the condition holds, else zero. -/
theorem val_v111 (h : V (Proc.devRef .tc main_arg17) = (fun _ => (0 : R) : FVec Ideal S4 .f32)) (r : Fin 4096) :
    (after opsVal V (Proc.devRef .tc main_v111) : FVec Ideal S4096 .f32) (ix1 r)
      = Scalar.select ((V (Proc.devRef .tc main_v19) : Vec Ideal S4096 .i1) (ix1 r))
          ((V (Proc.devRef .tc main_v94) : FVec Ideal S4096 .f32) (ix1 r)) (0 : R) := by
  simp only [opsVal, TRef.binary, TRef.nullary, TRef.quaternary, TRef.unary, TRef.ternary, TRef.reshape, TRef.toBuf, TRef.ofBuf, cast_eq]
  after_results_simp
  clean_types
  rw [h]
  pointwise
  rfl

/-- A choice between slot 0 and the others, read off the printed comparison. -/
theorem slot_zero (j : Fin 4) (x y : R) :
    Scalar.select (IntOp.cmpi .eq (BitVec.ofNat 32 j.val) 0#32) x y = if j.val = 0 then x else y := by
  fin_cases j <;> rfl

/-- The updated rows: the row written in slot 0, zero in the others. -/
theorem slot_v121 (h : V (Proc.devRef .tc main_arg16) = (fun _ => (0 : R) : FVec Ideal S4x1024 .f32))
    (h91 : V (Proc.devRef .tc main_v91) = (fun _ => 0#32 : Vec Ideal S4096 .i32)) (r : Fin 4096) (j : Fin 4) (l : Fin 1024) :
    (after opsSlot V (Proc.devRef .tc main_v121) : FVec Ideal S4096x4x1024 .f32) (ix3 r j l)
      = if j.val = 0 then (V (Proc.devRef .tc main_v103) : FVec Ideal S4096x1024 .f32) (ix2 r l) else (0 : R) := by
  simp only [opsSlot, TRef.binary, TRef.nullary, TRef.quaternary, TRef.unary, TRef.ternary, TRef.reshape, TRef.toBuf, TRef.ofBuf, cast_eq]
  after_results_simp
  clean_types
  rw [h, h91]
  pointwise
  exact slot_zero j _ _

/-- The updated scores: the score written in slot 0, zero in the others. -/
theorem slot_v124 (h : V (Proc.devRef .tc main_arg17) = (fun _ => (0 : R) : FVec Ideal S4 .f32))
    (h91 : V (Proc.devRef .tc main_v91) = (fun _ => 0#32 : Vec Ideal S4096 .i32)) (r : Fin 4096) (j : Fin 4) :
    (after opsSlot V (Proc.devRef .tc main_v124) : FVec Ideal S4096x4 .f32) (ix2 r j)
      = if j.val = 0 then (V (Proc.devRef .tc main_v111) : FVec Ideal S4096 .f32) (ix1 r) else (0 : R) := by
  simp only [opsSlot, TRef.binary, TRef.nullary, TRef.quaternary, TRef.unary, TRef.ternary, TRef.reshape, TRef.toBuf, TRef.ofBuf, cast_eq]
  after_results_simp
  clean_types
  rw [h, h91]
  pointwise
  exact slot_zero j _ _

/-- A sum over four slots of 1024 that are zero but for slot 0 is the sum over slot 0. -/
theorem sum_slot (x : Fin 1024 → R) (w : Fin 4096 → R) (f : Fin 4096 → R)
    (h0 : ∀ l : Fin 1024, f (quarter l) = x l) (h1 : ∀ i : Fin 4096, 1024 ≤ i.val → f i = 0) :
    ∑ i, f i * w i = ∑ l, x l * w (quarter l) := by
  have e : ∀ g : Fin (1024 + 3072) → R, ∑ i, g i = ∑ l : Fin 1024, g (Fin.castAdd 3072 l) + ∑ l : Fin 3072, g (Fin.natAdd 1024 l) :=
    fun g => Fin.sum_univ_add g
  refine (e (fun i => f i * w i)).trans ?_
  rw [Finset.sum_eq_zero (s := (Finset.univ : Finset (Fin 3072))) (fun l _ => by rw [h1 _ (Nat.le_add_right _ _)]; exact zero_mul _), add_zero]
  exact Finset.sum_congr rfl fun l _ => by rw [← h0 l]; rfl

set_option maxHeartbeats 2000000 in
/-- The combining network before its normalization, on a row that is `x` in slot 0 and zero in the others. -/
theorem comb_v140 (r : Fin 4096) (x : Fin 1024 → R)
    (h : ∀ (j : Fin 4) (l : Fin 1024), (V (Proc.devRef .tc main_v121) : FVec Ideal S4096x4x1024 .f32) (ix3 r j l) = if j.val = 0 then x l else (0 : R)) (j : Fin 1024) :
    (after opsComb V (Proc.devRef .tc main_v140) : FVec Ideal S4096x1024 .f32) (ix2 r j)
      = layer (fun k => gelu (layer x (fun l k => (V (Proc.devRef .tc main_arg10) : FVec Ideal S4096x2048 .f32) (ix2 (quarter l) k))
            (fun k => (V (Proc.devRef .tc main_arg11) : FVec Ideal S2048 .f32) (ix1 k)) k))
          (fun k j => (V (Proc.devRef .tc main_arg12) : FVec Ideal S2048x1024 .f32) (ix2 k j))
          (fun j => (V (Proc.devRef .tc main_arg13) : FVec Ideal S1024 .f32) (ix1 j)) j := by
  simp only [opsComb, TRef.binary, TRef.nullary, TRef.quaternary, TRef.unary, TRef.ternary, TRef.reshape, TRef.toBuf, TRef.ofBuf, cast_eq]
  after_results_simp
  clean_types
  unfold layer
  pointwise
  simp only [h, gelu_erfc]
  refine congrArg (· + _) (Finset.sum_congr rfl fun k _ => ?_)
  refine congrArg (fun z => gelu (z + _) * _) (sum_slot x _ (fun i => if i.val / 1024 = 0 then x ⟨i.val % 1024, Nat.mod_lt _ (by decide)⟩ else (0 : R)) (fun l => ?_) (fun i hi => ?_))
  · have hl := l.isLt
    show (if l.val / 1024 = 0 then x ⟨l.val % 1024, _⟩ else (0 : R)) = x l
    rw [if_pos (by omega)]
    exact congrArg x (Fin.ext (Nat.mod_eq_of_lt hl))
  · exact if_neg (by omega)

set_option maxHeartbeats 2000000 in
/-- The variance of a row `y`. -/
theorem norm_v151 (r : Fin 4096) (y : Fin 1024 → R)
    (h : ∀ j : Fin 1024, (V (Proc.devRef .tc main_v140) : FVec Ideal S4096x1024 .f32) (ix2 r j) = y j) :
    (after opsNorm V (Proc.devRef .tc main_v151) : FVec Ideal S4096x1 .f32) (ix2 r 0) = mean (fun l => (y l - mean y) * (y l - mean y)) := by
  simp only [opsNorm, TRef.binary, TRef.nullary, TRef.quaternary, TRef.unary, TRef.ternary, TRef.reshape, TRef.toBuf, TRef.ofBuf, cast_eq]
  after_results_simp
  clean_types
  unfold mean
  pointwise
  simp only [h]

/-- The mean of a row `y`, at each of its places. -/
theorem norm_v152 (r : Fin 4096) (y : Fin 1024 → R)
    (h : ∀ j : Fin 1024, (V (Proc.devRef .tc main_v140) : FVec Ideal S4096x1024 .f32) (ix2 r j) = y j) (j : Fin 1024) :
    (after opsNorm V (Proc.devRef .tc main_v152) : FVec Ideal S4096x1024 .f32) (ix2 r j) = mean y := by
  simp only [opsNorm, TRef.binary, TRef.nullary, TRef.quaternary, TRef.unary, TRef.ternary, TRef.reshape, TRef.toBuf, TRef.ofBuf, cast_eq]
  after_results_simp
  clean_types
  unfold mean
  pointwise
  simp only [h]

/-- The normalized row of `y`, given its mean and variance. -/
theorem out_v164 (r : Fin 4096) (y : Fin 1024 → R)
    (h : ∀ j : Fin 1024, (V (Proc.devRef .tc main_v140) : FVec Ideal S4096x1024 .f32) (ix2 r j) = y j)
    (h151 : (V (Proc.devRef .tc main_v151) : FVec Ideal S4096x1 .f32) (ix2 r 0) = mean (fun l => (y l - mean y) * (y l - mean y)))
    (h152 : ∀ j : Fin 1024, (V (Proc.devRef .tc main_v152) : FVec Ideal S4096x1024 .f32) (ix2 r j) = mean y) (j : Fin 1024) :
    (after opsOut V (Proc.devRef .tc main_v164) : FVec Ideal S4096x1024 .f32) (ix2 r j)
      = layerNorm (fun j => (V (Proc.devRef .tc main_arg14) : FVec Ideal S1024 .f32) (ix1 j))
          (fun j => (V (Proc.devRef .tc main_arg15) : FVec Ideal S1024 .f32) (ix1 j)) y j := by
  simp only [opsOut, TRef.binary, TRef.nullary, TRef.quaternary, TRef.unary, TRef.ternary, TRef.reshape, TRef.toBuf, TRef.ofBuf, cast_eq]
  after_results_simp
  clean_types
  unfold layerNorm
  pointwise
  simp only [h, h151, h152]

/-! ## The groups put together -/

/-- The arrays after the operations that choose the slot and the row written to it. -/
abbrev upto : (b : DevRef τ sig) → b.ty.Contents (Elt Ideal) :=
  after opsUse (after opsGate2 (after opsGate (after opsPick (after opsSims (after opsMin (after opsScore V))))))

variable (h16 : V (Proc.devRef .tc main_arg16) = (fun _ => (0 : R) : FVec Ideal S4x1024 .f32))
  (h17 : V (Proc.devRef .tc main_arg17) = (fun _ => (0 : R) : FVec Ideal S4 .f32))

include h16 in
/-- No picked similarity is positive when the choice is made. -/
theorem upto_nonPos : NonPos ((after opsGate2 (after opsGate (after opsPick (after opsSims (after opsMin (after opsScore V)))))) (Proc.devRef .tc main_v37)) := by
  rw [keepGate2 _ _ (by decide), keepGate _ _ (by decide)]
  refine pick_v37 _ (sims_v33 _ ?_)
  rw [keepMin _ _ (by decide), keepScore _ _ (by decide)]
  exact h16

include h16 h17 in
/-- Every row goes to slot 0. -/
theorem upto_v91 : upto V (Proc.devRef .tc main_v91) = (fun _ => 0#32 : Vec Ideal S4096 .i32) := by
  refine use_v91 _ (upto_nonPos V h16) fun j => ?_
  rw [keepGate2 _ _ (by decide), keepGate _ _ (by decide), keepPick _ _ (by decide), keepSims _ _ (by decide)]
  refine min_v16 _ ?_ j
  rw [keepScore _ _ (by decide)]
  exact h17

include h17 in
/-- The condition of writing a row: its score is positive. -/
theorem upto_v19 (r : Fin 4096) : (upto V (Proc.devRef .tc main_v19) : Vec Ideal S4096 .i1) (ix1 r)
    = Ideal.cmp .ogt (rowScore (V (Proc.devRef .tc main_arg0)) (V (Proc.devRef .tc main_arg2)) (V (Proc.devRef .tc main_arg3))
        (V (Proc.devRef .tc main_arg4)) (V (Proc.devRef .tc main_arg5)) r) (0 : R) := by
  unfold upto
  rw [keepUse _ _ (by decide), keepGate2 _ _ (by decide), keepGate _ _ (by decide), keepPick _ _ (by decide), keepSims _ _ (by decide),
    min_v19 _ (by rw [keepScore _ _ (by decide)]; exact h17), score_v15]

include h16 h17 in
/-- The row written to slot 0. -/
theorem row_written (r : Fin 4096) (l : Fin 1024) : (after opsVal (upto V) (Proc.devRef .tc main_v103) : FVec Ideal S4096x1024 .f32) (ix2 r l)
    = rowKept (V (Proc.devRef .tc main_arg0)) (V (Proc.devRef .tc main_arg2)) (V (Proc.devRef .tc main_arg3))
        (V (Proc.devRef .tc main_arg4)) (V (Proc.devRef .tc main_arg5)) r l := by
  have h19 := upto_v19 V h17 r
  unfold upto at h19
  rw [keepUse _ _ (by decide)] at h19
  rw [val_v103 _ (by simp (disch := decide) only [keepScore, keepMin, keepSims, keepPick, keepGate, keepGate2, keepUse]; exact h16)]
  unfold upto
  rw [use_v95, h19, use_v93 _ (upto_nonPos V h16)]
  simp (disch := decide) only [keepScore, keepMin, keepSims, keepPick, keepGate, keepGate2]
  unfold rowKept keep
  exact (Scalar.select_ofBool _ _ _).trans (by simp only [decide_eq_true_eq])

include h16 h17 in
/-- The score written to slot 0. -/
theorem score_written (r : Fin 4096) : (after opsVal (upto V) (Proc.devRef .tc main_v111) : FVec Ideal S4096 .f32) (ix1 r)
    = keep (rowScore (V (Proc.devRef .tc main_arg0)) (V (Proc.devRef .tc main_arg2)) (V (Proc.devRef .tc main_arg3))
          (V (Proc.devRef .tc main_arg4)) (V (Proc.devRef .tc main_arg5)) r)
        (rowScore (V (Proc.devRef .tc main_arg0)) (V (Proc.devRef .tc main_arg2)) (V (Proc.devRef .tc main_arg3))
          (V (Proc.devRef .tc main_arg4)) (V (Proc.devRef .tc main_arg5)) r) := by
  rw [val_v111 _ (by simp (disch := decide) only [keepScore, keepMin, keepSims, keepPick, keepGate, keepGate2, keepUse]; exact h17),
    upto_v19 V h17]
  unfold upto
  rw [use_v94 _ (upto_nonPos V h16)]
  simp (disch := decide) only [keepMin, keepSims, keepPick, keepGate, keepGate2]
  rw [score_v15]
  unfold keep
  exact (Scalar.select_ofBool _ _ _).trans (by simp only [decide_eq_true_eq])

/-- The arrays after the operations that write the slot. -/
abbrev updated : (b : DevRef τ sig) → b.ty.Contents (Elt Ideal) := after opsSlot (after opsVal (upto V))

include h16 h17 in
/-- The updated rows, before the combining network. -/
theorem updated_v121 (r : Fin 4096) (j : Fin 4) (l : Fin 1024) : (updated V (Proc.devRef .tc main_v121) : FVec Ideal S4096x4x1024 .f32) (ix3 r j l)
    = if j.val = 0 then rowKept (V (Proc.devRef .tc main_arg0)) (V (Proc.devRef .tc main_arg2)) (V (Proc.devRef .tc main_arg3))
        (V (Proc.devRef .tc main_arg4)) (V (Proc.devRef .tc main_arg5)) r l else (0 : R) := by
  unfold updated
  rw [slot_v121 _ (by simp (disch := decide) only [keepScore, keepMin, keepSims, keepPick, keepGate, keepGate2, keepUse, keepVal]; exact h16)
      (by rw [keepVal _ _ (by decide)]; exact upto_v91 V h16 h17), row_written V h16 h17]

include h16 h17 in
/-- The combined row before its normalization. -/
theorem combined_v140 (r : Fin 4096) (j : Fin 1024) : (after opsComb (updated V) (Proc.devRef .tc main_v140) : FVec Ideal S4096x1024 .f32) (ix2 r j)
    = layer (fun k => gelu (layer (rowKept (V (Proc.devRef .tc main_arg0)) (V (Proc.devRef .tc main_arg2)) (V (Proc.devRef .tc main_arg3))
              (V (Proc.devRef .tc main_arg4)) (V (Proc.devRef .tc main_arg5)) r)
            (fun l k => (V (Proc.devRef .tc main_arg10) : FVec Ideal S4096x2048 .f32) (ix2 (quarter l) k))
            (fun k => (V (Proc.devRef .tc main_arg11) : FVec Ideal S2048 .f32) (ix1 k)) k))
          (fun k j => (V (Proc.devRef .tc main_arg12) : FVec Ideal S2048x1024 .f32) (ix2 k j))
          (fun j => (V (Proc.devRef .tc main_arg13) : FVec Ideal S1024 .f32) (ix1 j)) j := by
  rw [comb_v140 _ r _ (updated_v121 V h16 h17 r)]
  simp (disch := decide) only [keepScore, keepMin, keepSims, keepPick, keepGate, keepGate2, keepUse, keepVal, keepSlot]

include h16 h17 in
/-- The combined result of the reference. -/
theorem ops_v164 : after ops V (Proc.devRef .tc main_v164)
    = resComb (V (Proc.devRef .tc main_arg0)) (V (Proc.devRef .tc main_arg2)) (V (Proc.devRef .tc main_arg3))
        (V (Proc.devRef .tc main_arg4)) (V (Proc.devRef .tc main_arg5)) (V (Proc.devRef .tc main_arg10))
        (V (Proc.devRef .tc main_arg11)) (V (Proc.devRef .tc main_arg12)) (V (Proc.devRef .tc main_arg13))
        (V (Proc.devRef .tc main_arg14)) (V (Proc.devRef .tc main_arg15)) := by
  rw [after_ops]
  funext i
  obtain ⟨r, j, rfl⟩ : ∃ r j, i = ix2 r j := ⟨i 0, i 1, eq_ix2 i⟩
  have hy := combined_v140 V h16 h17 r
  rw [out_v164 _ r _ (fun j => by rw [keepNorm _ _ (by decide)]; exact hy j) (norm_v151 _ r _ hy) (norm_v152 _ r _ hy)]
  simp (disch := decide) only [keepScore, keepMin, keepSims, keepPick, keepGate, keepGate2, keepUse, keepVal, keepSlot, keepComb, keepNorm]
  rfl

include h16 h17 in
/-- The updated rows of the reference. -/
theorem ops_v121 : after ops V (Proc.devRef .tc main_v121)
    = resHyp (V (Proc.devRef .tc main_arg0)) (V (Proc.devRef .tc main_arg2)) (V (Proc.devRef .tc main_arg3))
        (V (Proc.devRef .tc main_arg4)) (V (Proc.devRef .tc main_arg5)) := by
  rw [after_ops, keepOut _ _ (by decide), keepNorm _ _ (by decide), keepComb _ _ (by decide)]
  funext i
  obtain ⟨r, j, l, rfl⟩ : ∃ r j l, i = ix3 r j l := ⟨i 0, i 1, i 2, eq_ix3 i⟩
  exact updated_v121 V h16 h17 r j l

include h16 h17 in
/-- The updated scores of the reference. -/
theorem ops_v124 : after ops V (Proc.devRef .tc main_v124)
    = resScore (V (Proc.devRef .tc main_arg0)) (V (Proc.devRef .tc main_arg2)) (V (Proc.devRef .tc main_arg3))
        (V (Proc.devRef .tc main_arg4)) (V (Proc.devRef .tc main_arg5)) := by
  rw [after_ops, keepOut _ _ (by decide), keepNorm _ _ (by decide), keepComb _ _ (by decide)]
  funext i
  obtain ⟨r, j, rfl⟩ : ∃ r j, i = ix2 r j := ⟨i 0, i 1, eq_ix2 i⟩
  rw [slot_v124 _ (by simp (disch := decide) only [keepScore, keepMin, keepSims, keepPick, keepGate, keepGate2, keepUse, keepVal]; exact h17)
      (by rw [keepVal _ _ (by decide)]; exact upto_v91 V h16 h17), score_written V h16 h17]
  rfl

end Cert.ReferenceIdeal.Host

end
-- ==== Proof.lean ====
/-
  The certificate of kernel `k`, version 5. The frames of the kernel at both instances are the generated ones
  (Proof/Gen); the reference's run is Proof/RefRun, its results at the ideal instance are Proof/RefValue, the kernel's
  are Proof/Arrays; both are the functions of Proof/Spec, which is the value claim.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.Pre_zero_state
public import proofs.«01_k».proof.Proof.Arrays
public import proofs.«01_k».proof.Proof.RefValue
public import Idealize.ShloMosaic.Lib.ReduceAll
public import Idealize.ShloMosaic.Adequacy
public import Idealize.ShloMosaic.Init

@[expose] public section

set_option maxRecDepth 16384

noncomputable section

namespace Cert.Proof

open Idealize.ShloMosaic Idealize.ShloMosaic.TcCoe Idealize.SL.Sem Cert.Spec

/-! ## The precondition -/

/-- A number that the printed test finds equal to the literal zero is zero. -/
theorem eq_zero_of_test (x : R) (h : FloatOps.cmpf .oeq x (Ideal.ofBits .f32 0x00000000#32) = 1#1) : x = 0 := by
  rw [Ideal.cmpf_def, Ideal.ofBits_zero_f32] at h
  by_contra hx
  simp [Ideal.cmp, hx] at h

/-- What the precondition says of the last two arguments: the stored rows and the stored scores are zero. -/
theorem zero_state (m : (ℓ : Loc KernelIdeal.nD KernelIdeal.τ KernelIdeal.sig) → Buf (Elt Ideal) ℓ)
    (h : Pre_KernelIdeal_zero_state (hPre_zero_state := Pre_zero_state.Gen.facts) m) (c : Dev KernelIdeal.nD) :
    KernelIdeal.Arrays.arg m c KernelIdeal.main_arg16 = (fun _ => (0 : R) : FVec Ideal ⟨2, ![4, 1024]⟩ .f32)
    ∧ KernelIdeal.Arrays.arg m c KernelIdeal.main_arg17 = (fun _ => (0 : R) : FVec Ideal ⟨1, ![4]⟩ .f32) := by
  have e := congrFun (h c) (fun a => a.elim0)
  obtain ⟨e1, e2⟩ := IntOp.andi_eq_one.mp e
  haveI : Subsingleton Pre_zero_state.S_.Idx := ⟨fun a b => funext fun i => i.elim0⟩
  exact ⟨funext fun i => eq_zero_of_test _ (Host.reduce_andi_all _ _ _ _ _ e1 i),
    funext fun i => eq_zero_of_test _ (Host.reduce_andi_all _ _ _ _ _ e2 i)⟩

/-! ## The reference -/

section Reference

open Cert.ReferenceIdeal Cert.ReferenceIdeal.Gen Cert.ReferenceIdeal.Host

variable (m : (ℓ : Loc nD τ sig) → Buf (Elt Ideal) ℓ)

/-- The reference terminates, leaves its arguments and every semaphore counter at zero. -/
theorem reference_frame : quiescent_ReferenceIdeal (hReferenceIdeal := ReferenceIdeal.Gen.facts) := fun m g _ =>
  (θ_run _ _ _).mono (fun r h =>
    ⟨fun c => ⟨arg_kept m c main_arg0 (by decide) (h c main_arg0), arg_kept m c main_arg1 (by decide) (h c main_arg1), arg_kept m c main_arg2 (by decide) (h c main_arg2),
      arg_kept m c main_arg3 (by decide) (h c main_arg3), arg_kept m c main_arg4 (by decide) (h c main_arg4), arg_kept m c main_arg5 (by decide) (h c main_arg5),
      arg_kept m c main_arg6 (by decide) (h c main_arg6), arg_kept m c main_arg7 (by decide) (h c main_arg7), arg_kept m c main_arg8 (by decide) (h c main_arg8),
      arg_kept m c main_arg9 (by decide) (h c main_arg9), arg_kept m c main_arg10 (by decide) (h c main_arg10), arg_kept m c main_arg11 (by decide) (h c main_arg11),
      arg_kept m c main_arg12 (by decide) (h c main_arg12), arg_kept m c main_arg13 (by decide) (h c main_arg13), arg_kept m c main_arg14 (by decide) (h c main_arg14),
      arg_kept m c main_arg15 (by decide) (h c main_arg15), arg_kept m c main_arg16 (by decide) (h c main_arg16), arg_kept m c main_arg17 (by decide) (h c main_arg17)⟩,
      sem_eq_zero_of_no_sems (by decide) r.2⟩)
    (run_all m g)

/-- The reference's run with its three results named, under zero stored rows and scores. -/
theorem reference_run (g : Dev nD → PrngReg)
    (h16 : ∀ c : Dev nD, m ((c.tc : Thread nD τ).loc main_arg16) = (fun _ => (0 : R) : FVec Ideal S4x1024 .f32))
    (h17 : ∀ c : Dev nD, m ((c.tc : Thread nD τ).loc main_arg17) = (fun _ => (0 : R) : FVec Ideal S4 .f32)) :
    θ_run defs (onTc (τ := τ) (main (F := Ideal))) ⟨m, fun _ => 0, g⟩ fun r => ∀ c : Dev nD,
      (r.2.mem ((c.tc : Thread nD τ).loc main_v164)
          = resComb (m ((c.tc : Thread nD τ).loc main_arg0)) (m ((c.tc : Thread nD τ).loc main_arg2)) (m ((c.tc : Thread nD τ).loc main_arg3))
              (m ((c.tc : Thread nD τ).loc main_arg4)) (m ((c.tc : Thread nD τ).loc main_arg5)) (m ((c.tc : Thread nD τ).loc main_arg10))
              (m ((c.tc : Thread nD τ).loc main_arg11)) (m ((c.tc : Thread nD τ).loc main_arg12)) (m ((c.tc : Thread nD τ).loc main_arg13))
              (m ((c.tc : Thread nD τ).loc main_arg14)) (m ((c.tc : Thread nD τ).loc main_arg15))
        ∧ r.2.mem ((c.tc : Thread nD τ).loc main_v121)
          = resHyp (m ((c.tc : Thread nD τ).loc main_arg0)) (m ((c.tc : Thread nD τ).loc main_arg2)) (m ((c.tc : Thread nD τ).loc main_arg3))
              (m ((c.tc : Thread nD τ).loc main_arg4)) (m ((c.tc : Thread nD τ).loc main_arg5))
        ∧ r.2.mem ((c.tc : Thread nD τ).loc main_v124)
          = resScore (m ((c.tc : Thread nD τ).loc main_arg0)) (m ((c.tc : Thread nD τ).loc main_arg2)) (m ((c.tc : Thread nD τ).loc main_arg3))
              (m ((c.tc : Thread nD τ).loc main_arg4)) (m ((c.tc : Thread nD τ).loc main_arg5)))
      ∧ ∀ b ∈ args, r.2.mem ((c.tc : Thread nD τ).loc b) = m ((c.tc : Thread nD τ).loc b) :=
  (θ_run _ _ _).mono (fun r h c =>
    ⟨⟨(h c main_v164).trans (ops_v164 _ (h16 c) (h17 c)), (h c main_v121).trans (ops_v121 _ (h16 c) (h17 c)),
        (h c main_v124).trans (ops_v124 _ (h16 c) (h17 c))⟩,
      fun b hb => arg_kept m c b hb (h c b)⟩)
    (run_all m g)

end Reference

/-! ## The value claim -/

/-- Both programs leave the same three results, when the stored rows and scores are zero. -/
theorem value_claim : algebraic_KernelIdeal_ReferenceIdeal_pre_zero_state (hKernelIdeal := KernelIdeal.Gen.facts)
    (hReferenceIdeal := ReferenceIdeal.Gen.facts) (hPre_zero_state := Pre_zero_state.Gen.facts) := by
  intro m g m' g' hp ha
  refine ⟨KernelIdeal.Arrays.comb m, KernelIdeal.Arrays.hyp m, KernelIdeal.Arrays.scores m, ?_, ?_⟩
  · refine (θ_run _ _ _).mono (fun r h c => ?_) (KernelIdeal.Value.run_blocks m g)
    obtain ⟨h0, h1, h2, h⟩ := h c
    obtain ⟨f0, f1, f2⟩ := KernelIdeal.Arrays.finals m c
    exact ⟨h0.trans f0, h1.trans f1, h2.trans f2, h⟩
  · refine (θ_run _ _ _).mono (fun r h c => ?_) (reference_run m' g'
      (fun c => by rw [(ha c).2.2.2.2.2.2.2.2.2.2.2.2.2.2.2.2.1]; exact (zero_state m hp c).1)
      (fun c => by rw [(ha c).2.2.2.2.2.2.2.2.2.2.2.2.2.2.2.2.2]; exact (zero_state m hp c).2))
    obtain ⟨⟨h0, h1, h2⟩, h⟩ := h c
    obtain ⟨e0, -, e2, e3, e4, e5, -, -, -, -, e10, e11, e12, e13, e14, e15, -, -⟩ := ha c
    rw [e0, e2, e3, e4, e5] at h0 h1 h2
    rw [e10, e11, e12, e13, e14, e15] at h0
    exact ⟨h0, h1, h2, h _ (by decide), h _ (by decide), h _ (by decide), h _ (by decide), h _ (by decide), h _ (by decide), h _ (by decide), h _ (by decide), h _ (by decide), h _ (by decide), h _ (by decide), h _ (by decide), h _ (by decide), h _ (by decide), h _ (by decide), h _ (by decide), h _ (by decide), h _ (by decide)⟩

/-- Every claim of the test file. -/
theorem claim : Cert.Claim := ⟨Cert.Kernel.Gen.facts, Cert.KernelIdeal.Gen.facts, Cert.ReferenceIdeal.Gen.facts, Cert.Pre_zero_state.Gen.facts,
  fun m g _ => Cert.Kernel.Gen.frame m g, fun m g _ => Cert.KernelIdeal.Gen.frame m g, fun m g _ => Cert.KernelIdeal.Gen.frame m g,
  reference_frame, fun m g _ => reference_frame m g trivial, trivial, value_claim⟩

end Cert.Proof

end
